-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S128x36x1024 : Shape := ⟨3, ![128, 36, 1024]⟩
abbrev S128 : Shape := ⟨1, ![128]⟩
abbrev S128x50x1024 : Shape := ⟨3, ![128, 50, 1024]⟩
abbrev S_ : Shape := ⟨0, ![]⟩

class Facts : Prop where
  bcast_S_S128x36x1024 : S_.BroadcastsInDim S128x36x1024 (![] : Fin 0 → Fin S128x36x1024.rank)
  bcast_S_S128x50x1024 : S_.BroadcastsInDim S128x50x1024 (![] : Fin 0 → Fin S128x50x1024.rank)

variable [Facts]

def fn {F : FTy → Type} [FloatOps F] (main_arg0 : FVec F S128x36x1024 .f32) (main_arg1 : IVec S128 32) (main_arg2 : FVec F S128x50x1024 .f32) (main_arg3 : IVec S128 32) : IVec S128x36x1024 1 × IVec S128x50x1024 1 :=
  let main_v0 : FVec F S128x36x1024 .f32 := Host.absf main_arg0
  let main_cst : FVec F S_ .f32 := constant S_ .f32 0x7F800000#32
  let main_v1 : FVec F S128x36x1024 .f32 := broadcastInDim S128x36x1024 ![] bcast_S_S128x36x1024 main_cst
  let main_v2 : IVec S128x36x1024 1 := cmpf .olt main_v0 main_v1
  let main_v3 : FVec F S128x50x1024 .f32 := Host.absf main_arg2
  let main_cst_0 : FVec F S_ .f32 := constant S_ .f32 0x7F800000#32
  let main_v4 : FVec F S128x50x1024 .f32 := broadcastInDim S128x50x1024 ![] bcast_S_S128x50x1024 main_cst_0
  let main_v5 : IVec S128x50x1024 1 := cmpf .olt main_v3 main_v4
  (main_v2, main_v5)
-- ==== Kernel.lean ====
abbrev S128x36x1024 : Shape := ⟨3, ![128, 36, 1024]⟩
abbrev S128 : Shape := ⟨1, ![128]⟩
abbrev S128x50x1024 : Shape := ⟨3, ![128, 50, 1024]⟩
abbrev S6400x1024 : Shape := ⟨2, ![6400, 1024]⟩
abbrev S1x6400 : Shape := ⟨2, ![1, 6400]⟩
abbrev S1024x6400 : Shape := ⟨2, ![1024, 6400]⟩
abbrev S1280x1024 : Shape := ⟨2, ![1280, 1024]⟩
abbrev S1x1280 : Shape := ⟨2, ![1, 1280]⟩
abbrev S1024x1280 : Shape := ⟨2, ![1024, 1280]⟩
abbrev S1280 : Shape := ⟨1, ![1280]⟩
abbrev S1280x1 : Shape := ⟨2, ![1280, 1]⟩
abbrev S50 : Shape := ⟨1, ![50]⟩
abbrev S1x50 : Shape := ⟨2, ![1, 50]⟩
abbrev S128x50 : Shape := ⟨2, ![128, 50]⟩
abbrev S6400 : Shape := ⟨1, ![6400]⟩
abbrev S3200 : Shape := ⟨1, ![3200]⟩
abbrev S3200x1 : Shape := ⟨2, ![3200, 1]⟩
abbrev S_ : Shape := ⟨0, ![]⟩
abbrev S64 : Shape := ⟨1, ![64]⟩
abbrev S1x64 : Shape := ⟨2, ![1, 64]⟩
abbrev S3200x64 : Shape := ⟨2, ![3200, 64]⟩
abbrev S64x3200 : Shape := ⟨2, ![64, 3200]⟩
abbrev S2x16x8x64 : Shape := ⟨4, ![2, 16, 8, 64]⟩
abbrev S8x36x1024 : Shape := ⟨3, ![8, 36, 1024]⟩
abbrev S1024x3200 : Shape := ⟨2, ![1024, 3200]⟩
abbrev S1x3200 : Shape := ⟨2, ![1, 3200]⟩
abbrev S1x1x8x64 : Shape := ⟨4, ![1, 1, 8, 64]⟩
abbrev S320x1024 : Shape := ⟨2, ![320, 1024]⟩
abbrev S320x320 : Shape := ⟨2, ![320, 320]⟩
abbrev S1x36x1024 : Shape := ⟨3, ![1, 36, 1024]⟩
abbrev S36x1024 : Shape := ⟨2, ![36, 1024]⟩
abbrev S320x3200 : Shape := ⟨2, ![320, 3200]⟩
abbrev S40x1024 : Shape := ⟨2, ![40, 1024]⟩
abbrev S40x40 : Shape := ⟨2, ![40, 40]⟩
abbrev S320x64 : Shape := ⟨2, ![320, 64]⟩
abbrev S320x1 : Shape := ⟨2, ![320, 1]⟩
abbrev S8x40x3200 : Shape := ⟨3, ![8, 40, 3200]⟩
abbrev S8x3200 : Shape := ⟨2, ![8, 3200]⟩
abbrev S8x64 : Shape := ⟨2, ![8, 64]⟩
abbrev S1x1 : Shape := ⟨2, ![1, 1]⟩
abbrev S2x128x64 : Shape := ⟨3, ![2, 128, 64]⟩
abbrev S1x128x64 : Shape := ⟨3, ![1, 128, 64]⟩
abbrev S128x64 : Shape := ⟨2, ![128, 64]⟩
abbrev S128x128 : Shape := ⟨2, ![128, 128]⟩
abbrev S128x1 : Shape := ⟨2, ![128, 1]⟩
abbrev S1x128 : Shape := ⟨2, ![1, 128]⟩
abbrev S1 : Shape := ⟨1, ![1]⟩

abbrev nBuf : Space → Nat
  | .hbm => 46
  | .vmem => 22
  | .smem => 0
  | _ => 0

abbrev bufTy : (tb : Table) → Fin (tcTables nBuf tb) → BufTy
  | .hbm, ⟨0, _⟩ => ⟨S128x36x1024, .f32⟩
  | .hbm, ⟨1, _⟩ => ⟨S128, .i32⟩
  | .hbm, ⟨2, _⟩ => ⟨S128x50x1024, .f32⟩
  | .hbm, ⟨3, _⟩ => ⟨S128, .i32⟩
  | .hbm, ⟨4, _⟩ => ⟨S6400x1024, .f32⟩
  | .hbm, ⟨5, _⟩ => ⟨S1x6400, .f32⟩
  | .hbm, ⟨6, _⟩ => ⟨S1024x6400, .bf16⟩
  | .hbm, ⟨7, _⟩ => ⟨S50, .i32⟩
  | .hbm, ⟨8, _⟩ => ⟨S1x50, .i32⟩
  | .hbm, ⟨9, _⟩ => ⟨S128x50, .i32⟩
  | .hbm, ⟨10, _⟩ => ⟨S6400, .i32⟩
  | .hbm, ⟨11, _⟩ => ⟨S128x50, .i32⟩
  | .hbm, ⟨12, _⟩ => ⟨S6400, .i32⟩
  | .hbm, ⟨13, _⟩ => ⟨S6400, .i1⟩
  | .hbm, ⟨14, _⟩ => ⟨S6400, .f32⟩
  | .hbm, ⟨15, _⟩ => ⟨S1x6400, .f32⟩
  | .hbm, ⟨16, _⟩ => ⟨S3200, .i32⟩
  | .hbm, ⟨17, _⟩ => ⟨S3200x1, .i32⟩
  | .hbm, ⟨18, _⟩ => ⟨S_, .i32⟩
  | .hbm, ⟨19, _⟩ => ⟨S_, .i32⟩
  | .hbm, ⟨20, _⟩ => ⟨S3200x1, .i32⟩
  | .hbm, ⟨21, _⟩ => ⟨S3200x1, .i32⟩
  | .hbm, ⟨22, _⟩ => ⟨S3200x1, .i32⟩
  | .hbm, ⟨23, _⟩ => ⟨S_, .i32⟩
  | .hbm, ⟨24, _⟩ => ⟨S3200x1, .i32⟩
  | .hbm, ⟨25, _⟩ => ⟨S3200x1, .i1⟩
  | .hbm, ⟨26, _⟩ => ⟨S3200x1, .i32⟩
  | .hbm, ⟨27, _⟩ => ⟨S3200x1, .i32⟩
  | .hbm, ⟨28, _⟩ => ⟨S_, .i32⟩
  | .hbm, ⟨29, _⟩ => ⟨S3200x1, .i32⟩
  | .hbm, ⟨30, _⟩ => ⟨S3200x1, .i1⟩
  | .hbm, ⟨31, _⟩ => ⟨S3200x1, .i1⟩
  | .hbm, ⟨32, _⟩ => ⟨S_, .i32⟩
  | .hbm, ⟨33, _⟩ => ⟨S3200x1, .i32⟩
  | .hbm, ⟨34, _⟩ => ⟨S3200x1, .i32⟩
  | .hbm, ⟨35, _⟩ => ⟨S3200x1, .i32⟩
  | .hbm, ⟨36, _⟩ => ⟨S64, .i32⟩
  | .hbm, ⟨37, _⟩ => ⟨S1x64, .i32⟩
  | .hbm, ⟨38, _⟩ => ⟨S3200x64, .i32⟩
  | .hbm, ⟨39, _⟩ => ⟨S3200x64, .i32⟩
  | .hbm, ⟨40, _⟩ => ⟨S3200x64, .i1⟩
  | .hbm, ⟨41, _⟩ => ⟨S3200x64, .f32⟩
  | .hbm, ⟨42, _⟩ => ⟨S64x3200, .f32⟩
  | .hbm, ⟨43, _⟩ => ⟨S2x16x8x64, .f32⟩
  | .hbm, ⟨44, _⟩ => ⟨S1x1, .f32⟩
  | .hbm, ⟨45, _⟩ => ⟨S_, .f32⟩
  | .local _ .vmem, ⟨0, _⟩ => ⟨S1280x1024, .f32⟩
  | .local _ .vmem, ⟨1, _⟩ => ⟨S1280x1024, .f32⟩
  | .local _ .vmem, ⟨2, _⟩ => ⟨S1x1280, .f32⟩
  | .local _ .vmem, ⟨3, _⟩ => ⟨S1x1280, .f32⟩
  | .local _ .vmem, ⟨4, _⟩ => ⟨S1024x1280, .bf16⟩
  | .local _ .vmem, ⟨5, _⟩ => ⟨S1024x1280, .bf16⟩
  | .local _ .vmem, ⟨6, _⟩ => ⟨S8x36x1024, .f32⟩
  | .local _ .vmem, ⟨7, _⟩ => ⟨S8x36x1024, .f32⟩
  | .local _ .vmem, ⟨8, _⟩ => ⟨S1024x3200, .bf16⟩
  | .local _ .vmem, ⟨9, _⟩ => ⟨S1024x3200, .bf16⟩
  | .local _ .vmem, ⟨10, _⟩ => ⟨S1x3200, .f32⟩
  | .local _ .vmem, ⟨11, _⟩ => ⟨S1x3200, .f32⟩
  | .local _ .vmem, ⟨12, _⟩ => ⟨S1x3200, .f32⟩
  | .local _ .vmem, ⟨13, _⟩ => ⟨S1x3200, .f32⟩
  | .local _ .vmem, ⟨14, _⟩ => ⟨S3200x64, .f32⟩
  | .local _ .vmem, ⟨15, _⟩ => ⟨S64x3200, .f32⟩
  | .local _ .vmem, ⟨16, _⟩ => ⟨S1x1x8x64, .f32⟩
  | .local _ .vmem, ⟨17, _⟩ => ⟨S1x1x8x64, .f32⟩
  | .local _ .vmem, ⟨18, _⟩ => ⟨S320x1024, .bf16⟩
  | .local _ .vmem, ⟨19, _⟩ => ⟨S320x320, .f32⟩
  | .local _ .vmem, ⟨20, _⟩ => ⟨S2x16x8x64, .f32⟩
  | .local _ .vmem, ⟨21, _⟩ => ⟨S1x1, .f32⟩
  | _, _ => ⟨S128x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg1_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem1_0 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S8x36x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S3200x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x3200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x8x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := .none

abbrev stage2_0 : Fin 1 → Memref sig .tc .vmem S2x16x8x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S128x36x1024 : Shape := ⟨3, ![128, 36, 1024]⟩
abbrev S128 : Shape := ⟨1, ![128]⟩
abbrev S128x50x1024 : Shape := ⟨3, ![128, 50, 1024]⟩
abbrev S50 : Shape := ⟨1, ![50]⟩
abbrev S1x50 : Shape := ⟨2, ![1, 50]⟩
abbrev S128x1 : Shape := ⟨2, ![128, 1]⟩
abbrev S128x50 : Shape := ⟨2, ![128, 50]⟩
abbrev S128x50x1 : Shape := ⟨3, ![128, 50, 1]⟩
abbrev S128x50x128x36 : Shape := ⟨4, ![128, 50, 128, 36]⟩
abbrev S128x128x36x50 : Shape := ⟨4, ![128, 128, 36, 50]⟩
abbrev S_ : Shape := ⟨0, ![]⟩
abbrev S128x128x36 : Shape := ⟨3, ![128, 128, 36]⟩
abbrev S128x128x36x1 : Shape := ⟨4, ![128, 128, 36, 1]⟩
abbrev S128x128x50x36 : Shape := ⟨4, ![128, 128, 50, 36]⟩
abbrev S128x128x50 : Shape := ⟨3, ![128, 128, 50]⟩
abbrev S128x128x50x1 : Shape := ⟨4, ![128, 128, 50, 1]⟩
abbrev S128x128x50x1024 : Shape := ⟨4, ![128, 128, 50, 1024]⟩
abbrev S1x128x50x1024 : Shape := ⟨4, ![1, 128, 50, 1024]⟩
abbrev S1x128x50 : Shape := ⟨3, ![1, 128, 50]⟩
abbrev S128x128 : Shape := ⟨2, ![128, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S128x36x1024, .f32⟩
  | 1 => ⟨S128, .i32⟩
  | 2 => ⟨S128x50x1024, .f32⟩
  | 3 => ⟨S128, .i32⟩
  | 4 => ⟨S50, .i32⟩
  | 5 => ⟨S1x50, .i32⟩
  | 6 => ⟨S128x1, .i32⟩
  | 7 => ⟨S128x50, .i32⟩
  | 8 => ⟨S128x50, .i32⟩
  | 9 => ⟨S128x50, .i1⟩
  | 10 => ⟨S128x50, .f32⟩
  | 11 => ⟨S128x50x1, .f32⟩
  | 12 => ⟨S128x50x1024, .f32⟩
  | 13 => ⟨S128x50x1024, .f32⟩
  | 14 => ⟨S128x50x128x36, .f32⟩
  | 15 => ⟨S128x128x36x50, .f32⟩
  | 16 => ⟨S_, .f32⟩
  | 17 => ⟨S_, .f32⟩
  | 18 => ⟨S128x128x36x50, .f32⟩
  | 19 => ⟨S128x128x36x50, .i1⟩
  | 20 => ⟨S_, .f32⟩
  | 21 => ⟨S128x128x36x50, .f32⟩
  | 22 => ⟨S128x128x36x50, .f32⟩
  | 23 => ⟨S128x128x36x50, .f32⟩
  | 24 => ⟨S128x128x36x50, .f32⟩
  | 25 => ⟨S_, .f32⟩
  | 26 => ⟨S128x128x36, .f32⟩
  | 27 => ⟨S128x128x36x1, .f32⟩
  | 28 => ⟨S128x128x36x1, .f32⟩
  | 29 => ⟨S_, .f32⟩
  | 30 => ⟨S128x128x36x1, .f32⟩
  | 31 => ⟨S128x128x36x1, .f32⟩
  | 32 => ⟨S128x128x36x50, .f32⟩
  | 33 => ⟨S128x128x36x50, .f32⟩
  | 34 => ⟨S128x128x50x36, .f32⟩
  | 35 => ⟨S_, .f32⟩
  | 36 => ⟨S128x128x50x36, .f32⟩
  | 37 => ⟨S128x128x50x36, .f32⟩
  | 38 => ⟨S_, .f32⟩
  | 39 => ⟨S128x128x50, .f32⟩
  | 40 => ⟨S_, .f32⟩
  | 41 => ⟨S128x128x50, .f32⟩
  | 42 => ⟨S128x128x50, .f32⟩
  | 43 => ⟨S128x128x50x1, .f32⟩
  | 44 => ⟨S128x128x50x36, .f32⟩
  | 45 => ⟨S128x128x50x36, .f32⟩
  | 46 => ⟨S128x128x50x36, .f32⟩
  | 47 => ⟨S_, .f32⟩
  | 48 => ⟨S128x128x50, .f32⟩
  | 49 => ⟨S128x128x50x1, .f32⟩
  | 50 => ⟨S128x128x50x36, .f32⟩
  | 51 => ⟨S128x128x50x36, .f32⟩
  | 52 => ⟨S128x128x50x1024, .f32⟩
  | 53 => ⟨S1x128x50x1024, .f32⟩
  | 54 => ⟨S128x128x50x1024, .f32⟩
  | 55 => ⟨S128x128x50x1024, .f32⟩
  | 56 => ⟨S_, .f32⟩
  | 57 => ⟨S128x128x50, .f32⟩
  | 58 => ⟨S1x128x50x1024, .f32⟩
  | 59 => ⟨S_, .f32⟩
  | 60 => ⟨S1x128x50, .f32⟩
  | 61 => ⟨S1x128x50, .f32⟩
  | 62 => ⟨S128x128x50x1024, .f32⟩
  | 63 => ⟨S_, .f32⟩
  | 64 => ⟨S128x128x50, .f32⟩
  | 65 => ⟨S128x128x50, .f32⟩
  | 66 => ⟨S128x128x50, .f32⟩
  | 67 => ⟨S128x128x50, .f32⟩
  | 68 => ⟨S_, .f32⟩
  | 69 => ⟨S128x128x50, .f32⟩
  | 70 => ⟨S128x128x50, .f32⟩
  | 71 => ⟨S128x128x50, .f32⟩
  | 72 => ⟨S_, .f32⟩
  | 73 => ⟨S128x128x50, .f32⟩
  | 74 => ⟨S128x128x50, .f32⟩
  | 75 => ⟨S128x128x50, .f32⟩
  | 76 => ⟨S1x128x50, .f32⟩
  | 77 => ⟨S128x128x50, .f32⟩
  | 78 => ⟨S128x128x50, .f32⟩
  | 79 => ⟨S_, .f32⟩
  | 80 => ⟨S128x128, .f32⟩
  | 81 => ⟨S128x128, .f32⟩
  | 82 => ⟨S_, .f32⟩
  | 83 => ⟨S128x128, .f32⟩
  | 84 => ⟨S128x128, .f32⟩
  | 85 => ⟨S128x128, .i32⟩
  | 86 => ⟨S128x128, .i32⟩
  | 87 => ⟨S128x128, .i1⟩
  | 88 => ⟨S_, .f32⟩
  | 89 => ⟨S128x128, .f32⟩
  | 90 => ⟨S128x128, .f32⟩
  | 91 => ⟨S_, .f32⟩
  | 92 => ⟨S128, .f32⟩
  | 93 => ⟨S128x1, .f32⟩
  | 94 => ⟨S_, .f32⟩
  | 95 => ⟨S128x128, .f32⟩
  | 96 => ⟨S128x128, .f32⟩
  | 97 => ⟨S128x128, .f32⟩
  | 98 => ⟨S128x128, .f32⟩
  | 99 => ⟨S_, .f32⟩
  | 100 => ⟨S128x128, .f32⟩
  | 101 => ⟨S128x128, .f32⟩
  | 102 => ⟨S_, .f32⟩
  | 103 => ⟨S128x128, .f32⟩
  | 104 => ⟨S128x128, .f32⟩
  | 105 => ⟨S1x128, .f32⟩
  | 106 => ⟨S128x128, .f32⟩
  | 107 => ⟨S128x128, .f32⟩
  | 108 => ⟨S_, .f32⟩
  | 109 => ⟨S128x128, .f32⟩
  | 110 => ⟨S128x128, .f32⟩
  | 111 => ⟨S128x128, .i32⟩
  | 112 => ⟨S128x128, .i32⟩
  | 113 => ⟨S_, .i32⟩
  | 114 => ⟨S128x128, .i32⟩
  | 115 => ⟨S128x128, .i32⟩
  | 116 => ⟨S128x128, .i1⟩
  | 117 => ⟨S_, .f32⟩
  | 118 => ⟨S_, .f32⟩
  | 119 => ⟨S128x128, .f32⟩
  | 120 => ⟨S128x128, .f32⟩
  | 121 => ⟨S_, .f32⟩
  | 122 => ⟨S_, .f32⟩
  | 123 => ⟨S128x128, .f32⟩
  | 124 => ⟨S128x128, .f32⟩
  | 125 => ⟨S_, .f32⟩
  | 126 => ⟨S128, .f32⟩
  | 127 => ⟨S_, .f32⟩
  | _ => ⟨S128x36x1024, .f32⟩

abbrev hbmTy0_1 (i : Nat) : BufTy := match i % 128 with
  | 0 => ⟨S_, .f32⟩
  | 1 => ⟨S_, .f32⟩
  | 2 => ⟨S128, .f32⟩
  | 3 => ⟨S_, .f32⟩
  | 4 => ⟨S_, .f32⟩
  | 5 => ⟨S_, .f32⟩
  | _ => ⟨S128x36x1024, .f32⟩

abbrev hbmTy (i : Nat) : BufTy := match i / 128 with
  | 0 => hbmTy0_0 i
  | 1 => hbmTy0_1 i
  | _ => ⟨S128x36x1024, .f32⟩

abbrev bufTy : (tb : Table) → Fin (tcTables nBuf tb) → BufTy
  | .hbm, ⟨i, _⟩ => hbmTy i
  | _, _ => ⟨S128x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_call1_v0 : Ref sig .tc := ⟨.hbm, 118, rfl⟩
abbrev main_call1_v1 : Ref sig .tc := ⟨.hbm, 119, rfl⟩
abbrev main_v86 : Ref sig .tc := ⟨.hbm, 120, rfl⟩
abbrev main_cst_20 : Ref sig .tc := ⟨.hbm, 121, rfl⟩
abbrev main_call2_v0 : Ref sig .tc := ⟨.hbm, 122, rfl⟩
abbrev main_call2_v1 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_cst_22 : Ref sig .tc := ⟨.hbm, 127, rfl⟩
abbrev main_v89 : Ref sig .tc := ⟨.hbm, 128, rfl⟩
abbrev main_cst_23 : Ref sig .tc := ⟨.hbm, 129, rfl⟩
abbrev main_v90 : Ref sig .tc := ⟨.hbm, 130, rfl⟩
abbrev main_cst_24 : Ref sig .tc := ⟨.hbm, 131, rfl⟩
abbrev main_v91 : Ref sig .tc := ⟨.hbm, 132, rfl⟩
abbrev main_v92 : Ref sig .tc := ⟨.hbm, 133, rfl⟩

abbrev nD : Nat := 1
abbrev τ : Topo := Topo.v7x

variable {F : FTy → Type} [FloatOps F]
-- ==== Proof.Ideal.Blocks.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What one block of each call computes, as a function of its input blocks -/

/-- The pieces one point writes into the padded-regions scratch: image `k`'s 36 regions go to rows `40 k … 40 k + 35`. -/
def impPieces (x0 : Vec F S8x36x1024 .f32) : List (View.Piece (Elt F) S320x1024 .bf16) :=
  [⟨Rect.unit (s := S320x1024) ![280, 0] S36x1024.size inb_S320x1024_S36x1024_280_0,
      k1_pay11 (View.ld x0 (Rect.unit (s := S8x36x1024) ![7, 0, 0] S1x36x1024.size inb_S8x36x1024_S1x36x1024_7_0_0))⟩,
    ⟨Rect.unit (s := S320x1024) ![240, 0] S36x1024.size inb_S320x1024_S36x1024_240_0,
      k1_pay10 (View.ld x0 (Rect.unit (s := S8x36x1024) ![6, 0, 0] S1x36x1024.size inb_S8x36x1024_S1x36x1024_6_0_0))⟩,
    ⟨Rect.unit (s := S320x1024) ![200, 0] S36x1024.size inb_S320x1024_S36x1024_200_0,
      k1_pay9 (View.ld x0 (Rect.unit (s := S8x36x1024) ![5, 0, 0] S1x36x1024.size inb_S8x36x1024_S1x36x1024_5_0_0))⟩,
    ⟨Rect.unit (s := S320x1024) ![160, 0] S36x1024.size inb_S320x1024_S36x1024_160_0,
      k1_pay8 (View.ld x0 (Rect.unit (s := S8x36x1024) ![4, 0, 0] S1x36x1024.size inb_S8x36x1024_S1x36x1024_4_0_0))⟩,
    ⟨Rect.unit (s := S320x1024) ![120, 0] S36x1024.size inb_S320x1024_S36x1024_120_0,
      k1_pay7 (View.ld x0 (Rect.unit (s := S8x36x1024) ![3, 0, 0] S1x36x1024.size inb_S8x36x1024_S1x36x1024_3_0_0))⟩,
    ⟨Rect.unit (s := S320x1024) ![80, 0] S36x1024.size inb_S320x1024_S36x1024_80_0,
      k1_pay6 (View.ld x0 (Rect.unit (s := S8x36x1024) ![2, 0, 0] S1x36x1024.size inb_S8x36x1024_S1x36x1024_2_0_0))⟩,
    ⟨Rect.unit (s := S320x1024) ![40, 0] S36x1024.size inb_S320x1024_S36x1024_40_0,
      k1_pay5 (View.ld x0 (Rect.unit (s := S8x36x1024) ![1, 0, 0] S1x36x1024.size inb_S8x36x1024_S1x36x1024_1_0_0))⟩,
    ⟨Rect.unit (s := S320x1024) ![0, 0] S36x1024.size inb_S320x1024_S36x1024_0_0,
      k1_pay4 (View.ld x0 (Rect.unit (s := S8x36x1024) ![0, 0, 0] S1x36x1024.size inb_S8x36x1024_S1x36x1024_0_0_0))⟩]

/-- The padded regions of the point's eight images: the eight pieces over zeros. -/
def impOf (x0 : Vec F S8x36x1024 .f32) : Vec F S320x1024 .bf16 :=
  View.canon (impPieces x0 ++ [⟨Rect.unit (s := S320x1024) ![0, 0] S320x1024.size inb_S320x1024_S320x1024_0_0, k1_pay2⟩])

/-- The pieces one point writes into the Gram scratch: image `k`'s 40 by 40 Gram block, on the diagonal. -/
def gramPieces (v : Vec F S320x1024 .bf16) : List (View.Piece (Elt F) S320x320 .f32) :=
  [⟨Rect.unit (s := S320x320) ![280, 280] S40x40.size inb_S320x320_S40x40_280_280, k1_pay21 v⟩,
    ⟨Rect.unit (s := S320x320) ![240, 240] S40x40.size inb_S320x320_S40x40_240_240, k1_pay20 v⟩,
    ⟨Rect.unit (s := S320x320) ![200, 200] S40x40.size inb_S320x320_S40x40_200_200, k1_pay19 v⟩,
    ⟨Rect.unit (s := S320x320) ![160, 160] S40x40.size inb_S320x320_S40x40_160_160, k1_pay18 v⟩,
    ⟨Rect.unit (s := S320x320) ![120, 120] S40x40.size inb_S320x320_S40x40_120_120, k1_pay17 v⟩,
    ⟨Rect.unit (s := S320x320) ![80, 80] S40x40.size inb_S320x320_S40x40_80_80, k1_pay16 v⟩,
    ⟨Rect.unit (s := S320x320) ![40, 40] S40x40.size inb_S320x320_S40x40_40_40, k1_pay15 v⟩,
    ⟨Rect.unit (s := S320x320) ![0, 0] S40x40.size inb_S320x320_S40x40_0_0, k1_pay14 v⟩]

/-- The block-diagonal Gram matrix of the padded regions: the eight blocks over zeros. -/
def gramOf (v : Vec F S320x1024 .bf16) : Vec F S320x320 .f32 :=
  View.canon (gramPieces v ++ [⟨Rect.unit (s := S320x320) ![0, 0] S320x320.size inb_S320x320_S320x320_0_0, k1_pay3⟩])

/-- The Gram matrix as the canonical value of its pieces. -/
theorem gramOf_def (v : Vec F S320x1024 .bf16) : gramOf v = View.canon (gramPieces v
    ++ [⟨Rect.unit (s := S320x320) ![0, 0] S320x320.size inb_S320x320_S320x320_0_0, k1_pay3⟩]) := rfl

/-- The pieces' rectangles do not depend on the block. -/
theorem impPieces_rects (x z : Vec F S8x36x1024 .f32) : (impPieces x).map (·.1) = (impPieces z).map (·.1) := by
  simp only [impPieces, List.map_cons, List.map_nil]
/-- The pieces occupy the same rectangles whatever the operand. -/
theorem gramPieces_rects (v w : Vec F S320x1024 .bf16) : (gramPieces v).map (·.1) = (gramPieces w).map (·.1) := by
  simp only [gramPieces, List.map_cons, List.map_nil]

/-- The block of scores (8 images by 64 captions) one point of the caption call computes, from its six input blocks. -/
def scoresOf (x0 : Vec F S8x36x1024 .f32) (x1 : Vec F S1024x3200 .bf16) (x2 : Vec F S1x3200 .f32) (x3 : Vec F S1x3200 .f32)
    (x4 : Vec F S3200x64 .f32) (x5 : Vec F S64x3200 .f32) : Vec F S1x1x8x64 .f32 :=
  k1_pay1 (k1_pay25 (k1_pay12 x2) (k1_pay13 (impOf x0) x1)
      (k1_pay22 (k1_pay12 x2) (k1_pay13 (impOf x0) x1) x4 x5) 40#32 k1_pay23 k1_pay24 (gramOf (impOf x0)) x3)
    (k1_pay26 x4)

/-- The loss the last call computes from all the blocks of scores. -/
def lossOf (x : Vec F S2x16x8x64 .f32) : Vec F S1x1 .f32 := k2_pay1 (k2_pay4 x) (k2_pay5 x)

/-! # Pieces over an earlier canonical filling -/

section Pieces

variable {Val : EltTy → Type} [∀ e, Nonempty (Val e)] {s : Shape} {e : EltTy}

/-- Off every piece of the first list, the joined filling is the second list's. -/
theorem canon_append_off (W : List (View.Piece Val s e)) (y : s.Idx) :
    ∀ L : List (View.Piece Val s e), (∀ p ∈ L, y ∉ p.1.set) → View.canon (L ++ W) y = View.canon W y
  | [], _ => rfl
  | p :: L, h => by
    rw [List.cons_append, View.canon_cons_of_not_mem p _ (h p (List.mem_cons_self ..))]
    exact canon_append_off W y L fun q hq => h q (List.mem_cons_of_mem _ hq)

/-- Writing pieces over a buffer that was filled by pieces at the SAME rectangles over `W` leaves the new pieces over `W`:
    where a new piece lies it is read, elsewhere no old piece lay either. -/
theorem read_writes_over {sg : RefSig} {κ : Kind} {sp : Space} (v : View sg κ sp s e) (W L' : List (View.Piece Val s e)) (y : s.Idx) :
    ∀ (L : List (View.Piece Val s e)) (f : v.ty.Contents Val),
      ((∀ p ∈ L, y ∉ p.1.set) → v.read Val f y = View.canon W y) →
      v.read Val (v.writes Val f L) y = View.canon (L ++ W) y
  | [], f, h => h fun _ hp => absurd hp List.not_mem_nil
  | p :: L, f, h => by
    by_cases hy : y ∈ p.1.set
    · rw [View.read_writes_apply_eq_canon v f y _ ⟨p, List.mem_cons_self .., hy⟩]
      obtain ⟨r, w⟩ := p
      obtain ⟨x, rfl⟩ : ∃ x, r.emb x = y := r.exists_idx_of_mem hy
      rw [List.cons_append, View.canon_cons_emb, View.canon_cons_emb]
    · have hy' : y ∉ Finset.univ.map p.1.emb := by rwa [Rect.map_emb_univ]
      rw [View.writes_cons, View.read_slice_write_of_not_mem p.1 _ _ _ hy', List.cons_append,
        View.canon_cons_of_not_mem p _ hy]
      exact read_writes_over v W L' y L f fun hL => h fun q hq => by
        rcases List.mem_cons.mp hq with rfl | hq
        · exact hy
        · exact hL q hq

/-- The same as a whole read: the old filling by pieces `L'` at the same rectangles as `L`. -/
theorem read_writes_refill {sg : RefSig} {κ : Kind} {sp : Space} (v : View sg κ sp s e) (W L L' : List (View.Piece Val s e))
    (hr : L'.map (·.1) = L.map (·.1)) (f : v.ty.Contents Val) (hf : v.read Val f = View.canon (L' ++ W)) :
    v.read Val (v.writes Val f L) = View.canon (L ++ W) := by
  funext y
  refine read_writes_over v W L' y L f fun hL => ?_
  rw [hf]
  refine canon_append_off W y L' fun p hp => ?_
  have : p.1 ∈ L.map (·.1) := hr ▸ List.mem_map_of_mem hp
  obtain ⟨q, hq, e⟩ := List.mem_map.mp this
  rw [← e]; exact hL q hq

end Pieces

end Cert.KernelIdeal.Whole

end
-- ==== Proof.Ideal.Ends.lean ====
module

public import proofs.«01_k».proof.Proof.Ideal.Blocks
public import Idealize.ShloMosaic.Lib.Ring
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The first and the last call: their bodies and their proof data -/

set_option maxHeartbeats 1000000 in
/-- The word-norms body leaves the norms and the transposed words of its block. -/
theorem run0 (c : Dev nD) (E : Set ℕ) (i : grid0.Coords) (arg1 : Memref sig .tc .vmem S1280x1024 .f32) (harg1 : arg1.IsWhole) (arg2 : Memref sig .tc .vmem S1x1280 .f32) (harg2 : arg2.IsWhole) (arg3 : Memref sig .tc .vmem S1024x1280 .bf16) (harg3 : arg3.IsWhole)
    (x0 : Vec F S1280x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0) ∗ owns (c : Thread nD τ) arg3 fullShare (k0_pay3 x0)) -∗ K ⟨⟩))
      ⊢ wp frame (wpE (defs₀ (F := F)) Variants.none c none) E (cc0_word_norms_capT i arg1 harg1 arg2 harg2 arg3 harg3) K := by
  simp only [cc0_word_norms_capT_eq_skeleton]; unfold cc0_word_norms_capT_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (View.cover_of_wholeMem _ (by sl_whole_mem)), View.canon_cons_unit_lit _ _ _ (by decide),
      View.readAt_eq_ld, View.ld_unit_lit (S := S1280x1024) inb_S1280x1024_S1280x1024_0_0 _ (by decide)]
  iexists _; isplitr
  swap; · iexact H2
  ipureintro
  rw [View.read_writes_eq_canon _ _ _ (View.cover_of_wholeMem _ (by sl_whole_mem)), View.canon_cons_unit_lit _ _ _ (by decide),
    View.readAt_eq_ld, View.ld_unit_lit (S := S1280x1024) inb_S1280x1024_S1280x1024_0_0 _ (by decide)]

set_option maxHeartbeats 1000000 in
/-- The loss body leaves the loss of the scores. -/
theorem run2 (c : Dev nD) (E : Set ℕ) (arg0 : Memref sig .tc .vmem S2x16x8x64 .f32) (harg0 : arg0.IsWhole) (arg1 : Memref sig .tc .vmem S1x1 .f32) (harg1 : arg1.IsWhole)
    (x0 : Vec F S2x16x8x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (lossOf x0)) -∗ K ⟨⟩))
      ⊢ wp frame (wpE (defs₀ (F := F)) Variants.none c none) E (cc2_hinge_loss arg0 harg0 arg1 harg1) K := by
  simp only [cc2_hinge_loss_eq_skeleton]; unfold cc2_hinge_loss_skel
  simp only [k2_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (View.cover_of_wholeMem _ (by sl_whole_mem)), View.canon_cons_unit_lit _ _ _ (by decide)]
  unfold run2.sl.r run2.sl.r_1 lossOf
  simp only [View.readAt_eq_ld, View.ld_unit_lit (S := S2x16x8x64) inb_S2x16x8x64_S2x16x8x64_0_0_0_0 _ (by decide)]

variable (V : (c : Dev nD) → (b : Ref sig .tc) → Buf (Elt F) ((c : Thread nD τ).loc b))

/-! ## Call 0 (word-norms), over the buffers `V` it is entered with -/

/-- Window `w`'s block at point `t`, cut from its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's proof data: after the body an input's buffer holds its block, an output's what the body computes from the blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (iblk0 V c 0 t)
    | ⟨2, _⟩ => k0_pay3 (iblk0 V c 0 t)
  Φ _ := Pipeline.ΦA spec0 c
  q _ := fullShare
  owed _ := 0

/-- The arrays the first call starts from are the valuation's. -/
theorem A_eq0 (c : Dev nD) (w : Fin cfg0.W) : (dat0 V c).A w = V c (Pipeline.arrRef spec0 w) := by
  dsimp only [dat0]
/-- After a trip of the first call: the words' block is unchanged, -/
theorem after0_0 (c : Dev nD) (t : Fin cfg0.N) : (dat0 V c).after 0 t = iblk0 V c 0 t := by dsimp only [dat0]
/-- the norms' block holds the norms of its words, -/
theorem after0_1 (c : Dev nD) (t : Fin cfg0.N) : (dat0 V c).after 1 t = k0_pay2 (iblk0 V c 0 t) := by dsimp only [dat0]
/-- and the transposed block their transpose. -/
theorem after0_2 (c : Dev nD) (t : Fin cfg0.N) : (dat0 V c).after 2 t = k0_pay3 (iblk0 V c 0 t) := by dsimp only [dat0]

/-- Input window 0's buffer holds its block when the body starts. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The first call's body, from its blocks at a grid point, leaves the blocks stated for it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of call 0, at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound_body0 V c t) rfl .rfl fun _ => .rfl

/-! ## Call 2 (hinge-loss), over the buffers `V` it is entered with -/

/-- Window `w`'s block at point `t`, cut from its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The call's proof data: after the body an input's buffer holds its block, an output's what the body computes from the blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => lossOf (iblk2 V c 0 t)
  Φ _ := Pipeline.ΦA spec2 c
  q _ := fullShare
  owed _ := 0

/-- The arrays the last call starts from are the valuation's. -/
theorem A_eq2 (c : Dev nD) (w : Fin cfg2.W) : (dat2 V c).A w = V c (Pipeline.arrRef spec2 w) := by
  dsimp only [dat2]
/-- After the last call's trip the scores are unchanged, -/
theorem after2_0 (c : Dev nD) (t : Fin cfg2.N) : (dat2 V c).after 0 t = iblk2 V c 0 t := by dsimp only [dat2]
/-- and the result holds their loss. -/
theorem after2_1 (c : Dev nD) (t : Fin cfg2.N) : (dat2 V c).after 1 t = lossOf (iblk2 V c 0 t) := by dsimp only [dat2]

/-- Input window 0's buffer holds its block when the body starts. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The last call's body, from its blocks, leaves the blocks stated for it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (run2 c Set.univ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of call 2, at every point. -/
theorem body_obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t by
    unfold defs₀; rw [Defs.onTc_tc]]
  exact triple_restated (sound_body2 V c t) rfl .rfl fun _ => .rfl

end Cert.KernelIdeal.Whole

end
-- ==== Proof.Ideal.Run.lean ====
module

public import proofs.«01_k».proof.Proof.Ideal.Blocks
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The caption call's body, run at its first point and at a later one -/

/-- The body clears both scratches when both grid coordinates are zero. -/
abbrev condFirst (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- That is the grid's first point. -/
theorem condFirst_iff (t : Fin cfg1.N) : condFirst (grid1.coords t) ↔ t.val = 0 := by
  revert t
  exact (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 1 % 16 := Pipeline.Grid.coords_val t 1 (by decide) rfl
    simp only [condFirst, e0, e1]
    rw [show t.val = 0 ↔ t.val % 32 = 0 by omega]
    word_cmp
   : ∀ t : Fin grid1.N, condFirst (grid1.coords t) ↔ t.val = 0)

set_option maxHeartbeats 1000000 in
/-- At the first point the body, over scratches holding anything, leaves the scores of its blocks, and the scratches at the padded regions and their Gram matrix. -/
theorem run_first (c : Dev nD) (i : grid1.Coords) (arg2 : Memref sig .tc .vmem S8x36x1024 .f32) (harg2 : arg2.IsWhole) (arg3 : Memref sig .tc .vmem S1024x3200 .bf16) (harg3 : arg3.IsWhole) (arg4 : Memref sig .tc .vmem S1x3200 .f32) (harg4 : arg4.IsWhole) (arg5 : Memref sig .tc .vmem S1x3200 .f32) (harg5 : arg5.IsWhole) (arg6 : Memref sig .tc .vmem S3200x64 .f32) (harg6 : arg6.IsWhole) (arg7 : Memref sig .tc .vmem S64x3200 .f32) (harg7 : arg7.IsWhole) (arg8 : Memref sig .tc .vmem S1x1x8x64 .f32) (harg8 : arg8.IsWhole) (arg9 : Memref sig .tc .vmem S320x1024 .bf16) (harg9 : arg9.IsWhole) (arg10 : Memref sig .tc .vmem S320x320 .f32) (harg10 : arg10.IsWhole) (hc0 : condFirst i)
    (x0 : Vec F S8x36x1024 .f32) (x1 : Vec F S1024x3200 .bf16) (x2 : Vec F S1x3200 .f32) (x3 : Vec F S1x3200 .f32) (x4 : Vec F S3200x64 .f32) (x5 : Vec F S64x3200 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (scoresOf x0 x1 x2 x3 x4 x5)
          ∗ owns (c : Thread nD τ) arg9 fullShare (impOf x0) ∗ owns (c : Thread nD τ) arg10 fullShare (gramOf (impOf x0))) -∗ K ⟨⟩))
      ⊢ wp frame (wpE (defs₀ (F := F)) Variants.none c none) E (cc1_caption_scores i arg2 harg2 arg3 harg3 arg4 harg4 arg5 harg5 arg6 harg6 arg7 harg7 arg8 harg8 arg9 harg9 arg10 harg10) K := by
  simp only [cc1_caption_scores_eq_skeleton]; unfold cc1_caption_scores_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  have e0 : run_first.sl.HS0_9 c arg2 harg2 x0 = impPieces x0 ++ [⟨Rect.unit (s := S320x1024) ![0, 0] S320x1024.size inb_S320x1024_S320x1024_0_0, k1_pay2⟩] := by
    unfold run_first.sl.HS0_9 impPieces
    simp only [View.readAt_eq_ld, hf0, List.cons_append, List.nil_append]
  have himp : arg9.view.read (Elt F) (arg9.view.writes (Elt F) fs0 (run_first.sl.HS0_9 c arg2 harg2 x0)) = impOf x0 := by
    rw [View.read_writes_eq_canon _ _ _ (View.cover_of_wholeMem _ (by sl_whole_mem)), e0]
    rfl
  have h53 : run_first.sl.v53 c arg2 harg2 arg9 x0 = impOf x0 := by
    unfold run_first.sl.v53
    rw [View.readCov_eq_canon', e0]
    exact View.ld_unit_lit inb_S320x1024_S320x1024_0_0 (impOf x0) (by decide)
  have e1 : run_first.sl.HS1_9 c arg2 harg2 arg9 x0 = gramPieces (impOf x0) ++ [⟨Rect.unit (s := S320x320) ![0, 0] S320x320.size inb_S320x320_S320x320_0_0, k1_pay3⟩] := by
    unfold run_first.sl.HS1_9 gramPieces
    simp only [h53, List.cons_append, List.nil_append]
  have hgram : arg10.view.read (Elt F) (arg10.view.writes (Elt F) fs1 (run_first.sl.HS1_9 c arg2 harg2 arg9 x0)) = gramOf (impOf x0) := by
    rw [View.read_writes_eq_canon _ _ _ (View.cover_of_wholeMem _ (by sl_whole_mem)), e1]
    rfl
  have h156 : (arg10.view.readCov (Val := Elt F) (run_first.sl.HS1_9 c arg2 harg2 arg9 x0)
      (Rect.unit (s := S320x320) ![0, 0] S320x320.size inb_S320x320_S320x320_0_0).toLoadRect) = gramOf (impOf x0) := by
    rw [View.readCov_eq_canon', e1]
    exact View.ld_unit_lit inb_S320x320_S320x320_0_0 (gramOf (impOf x0)) (by decide)
  have hout : arg8.view.read (Elt F) (arg8.view.writes (Elt F) f6 [⟨Rect.unit (s := S1x1x8x64) ![0, 0, 0, 0] S1x1x8x64.size inb_S1x1x8x64_S1x1x8x64_0_0_0_0,
          k1_pay1 (run_first.sl.r_3 c arg2 harg2 arg3 harg3 arg4 harg4 arg5 harg5 arg6 harg6 arg7 harg7 arg9 arg10 x0 x1 x2 x3 x4 x5) (run_first.sl.r_4 c arg6 harg6 x4)⟩]) = scoresOf x0 x1 x2 x3 x4 x5 := by
    rw [View.read_writes_eq_canon _ _ _ (View.cover_of_wholeMem _ (by sl_whole_mem)),
      View.canon_cons_unit_lit _ _ _ (by decide)]
    unfold run_first.sl.r_3 run_first.sl.r_4 run_first.sl.r_2 run_first.sl.r_1 run_first.sl.r run_first.sl.v156 scoresOf
    simp only [View.readAt_eq_ld, hf1, hf2, hf3, hf4, hf5, View.ld_unit_lit (S := S1x3200) inb_S1x3200_S1x3200_0_0 _ (by decide), View.ld_unit_lit (S := S1024x3200) inb_S1024x3200_S1024x3200_0_0 _ (by decide),
      View.ld_unit_lit (S := S3200x64) inb_S3200x64_S3200x64_0_0 _ (by decide), View.ld_unit_lit (S := S64x3200) inb_S64x3200_S64x3200_0_0 _ (by decide),
      View.ld_unit_lit (S := S320x1024) inb_S320x1024_S320x1024_0_0 _ (by decide), View.ld_unit_lit (S := S320x320) inb_S320x320_S320x320_0_0 _ (by decide), h53, h156]
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro
    exact hout
  isplitl [HS0]
  · iexists _; isplitr
    swap; · iexact HS0
    ipureintro
    exact himp
  iexists _; isplitr
  swap; · iexact HS1
  ipureintro
  exact hgram

set_option maxHeartbeats 1000000 in
/-- At a later point, over scratches left by earlier blocks, it leaves the same functions of its own blocks. -/
theorem run_next (c : Dev nD) (i : grid1.Coords) (arg2 : Memref sig .tc .vmem S8x36x1024 .f32) (harg2 : arg2.IsWhole) (arg3 : Memref sig .tc .vmem S1024x3200 .bf16) (harg3 : arg3.IsWhole) (arg4 : Memref sig .tc .vmem S1x3200 .f32) (harg4 : arg4.IsWhole) (arg5 : Memref sig .tc .vmem S1x3200 .f32) (harg5 : arg5.IsWhole) (arg6 : Memref sig .tc .vmem S3200x64 .f32) (harg6 : arg6.IsWhole) (arg7 : Memref sig .tc .vmem S64x3200 .f32) (harg7 : arg7.IsWhole) (arg8 : Memref sig .tc .vmem S1x1x8x64 .f32) (harg8 : arg8.IsWhole) (arg9 : Memref sig .tc .vmem S320x1024 .bf16) (harg9 : arg9.IsWhole) (arg10 : Memref sig .tc .vmem S320x320 .f32) (harg10 : arg10.IsWhole) (hc0 : ¬ condFirst i)
    (x0 : Vec F S8x36x1024 .f32) (x1 : Vec F S1024x3200 .bf16) (x2 : Vec F S1x3200 .f32) (x3 : Vec F S1x3200 .f32) (x4 : Vec F S3200x64 .f32) (x5 : Vec F S64x3200 .f32) (z : Vec F S8x36x1024 .f32) (w : Vec F S320x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (impOf z) ∗ owns (c : Thread nD τ) arg10 fullShare (gramOf w)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (scoresOf x0 x1 x2 x3 x4 x5)
          ∗ owns (c : Thread nD τ) arg9 fullShare (impOf x0) ∗ owns (c : Thread nD τ) arg10 fullShare (gramOf (impOf x0))) -∗ K ⟨⟩))
      ⊢ wp frame (wpE (defs₀ (F := F)) Variants.none c none) E (cc1_caption_scores i arg2 harg2 arg3 harg3 arg4 harg4 arg5 harg5 arg6 harg6 arg7 harg7 arg8 harg8 arg9 harg9 arg10 harg10) K := by
  simp only [cc1_caption_scores_eq_skeleton]; unfold cc1_caption_scores_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hs0
  obtain rfl := harg10.eq_unread hs1
  sl_exec (disch := first | sl_exact hc0)
  sl_step
  have himp : arg9.view.read (Elt F) (arg9.view.writes (Elt F) (harg9.unread (impOf z)) (run_next.sl.HS0_8 c arg2 harg2 x0)) = impOf x0 := by
    have e : run_next.sl.HS0_8 c arg2 harg2 x0 = impPieces x0 := by
      unfold run_next.sl.HS0_8 impPieces
      simp only [View.readAt_eq_ld, hf0]
    rw [e]
    exact read_writes_refill arg9.view _ (impPieces x0) (impPieces z) (impPieces_rects z x0) _ hs0
  have h53 : run_next.sl.r c arg2 harg2 arg9 harg9 x0 z = impOf x0 := by
    unfold run_next.sl.r
    rw [View.readAt_eq_ld, himp]
    exact View.ld_unit_lit inb_S320x1024_S320x1024_0_0 (impOf x0) (by decide)
  have hgram : arg10.view.read (Elt F) (arg10.view.writes (Elt F) (harg10.unread (gramOf w)) (run_next.sl.HS1_8 c arg2 harg2 arg9 harg9 x0 z)) = gramOf (impOf x0) := by
    have hs1' := hs1.trans (gramOf_def w)
    rw [gramOf_def (impOf x0)]
    have e : run_next.sl.HS1_8 c arg2 harg2 arg9 harg9 x0 z = gramPieces (impOf x0) := by
      unfold run_next.sl.HS1_8 gramPieces
      simp only [h53]
    rw [e]
    exact read_writes_refill arg10.view _ (gramPieces (impOf x0)) (gramPieces w) (gramPieces_rects w (impOf x0)) _ hs1'
  have hout : arg8.view.read (Elt F) (arg8.view.writes (Elt F) f6 [⟨Rect.unit (s := S1x1x8x64) ![0, 0, 0, 0] S1x1x8x64.size inb_S1x1x8x64_S1x1x8x64_0_0_0_0,
          k1_pay1 (run_next.sl.r_4 c arg2 harg2 arg3 harg3 arg4 harg4 arg5 harg5 arg6 harg6 arg7 harg7 arg9 harg9 arg10 harg10 x0 x1 x2 x3 x4 x5 z w) (run_next.sl.r_5 c arg6 harg6 x4)⟩]) = scoresOf x0 x1 x2 x3 x4 x5 := by
    rw [View.read_writes_eq_canon _ _ _ (View.cover_of_wholeMem _ (by sl_whole_mem)),
      View.canon_cons_unit_lit _ _ _ (by decide)]
    unfold run_next.sl.r_4 run_next.sl.r_5 run_next.sl.r_3 run_next.sl.r_2 run_next.sl.r_1 scoresOf
    simp only [View.readAt_eq_ld, hf1, hf2, hf3, hf4, hf5, View.ld_unit_lit (S := S1x3200) inb_S1x3200_S1x3200_0_0 _ (by decide), View.ld_unit_lit (S := S1024x3200) inb_S1024x3200_S1024x3200_0_0 _ (by decide),
      View.ld_unit_lit (S := S3200x64) inb_S3200x64_S3200x64_0_0 _ (by decide), View.ld_unit_lit (S := S64x3200) inb_S64x3200_S64x3200_0_0 _ (by decide),
      View.ld_unit_lit (S := S320x1024) inb_S320x1024_S320x1024_0_0 _ (by decide), View.ld_unit_lit (S := S320x320) inb_S320x320_S320x320_0_0 _ (by decide), himp, hgram]
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro
    exact hout
  isplitl [HS0]
  · iexists _; isplitr
    swap; · iexact HS0
    ipureintro
    exact himp
  iexists _; isplitr
  swap; · iexact HS1
  ipureintro
  exact hgram

end Cert.KernelIdeal.Whole

end
-- ==== Proof.Ideal.Scores.lean ====
module

public import proofs.«01_k».proof.Proof.Ideal.Run

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The caption call's proof data -/

variable (V : (c : Dev nD) → (b : Ref sig .tc) → Buf (Elt F) ((c : Thread nD τ).loc b))

/-! ## Call 1 (caption-scores), over the buffers `V` it is entered with -/

/-- Window `w`'s block at point `t`, cut from its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The other calls' staging buffers, at anything: the caption call never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f))

/-- What the two scratches hold before point `n`: anything before the first, and afterwards some block's padded regions
    and some regions' block-diagonal Gram matrix. -/
def carried (c : Dev nD) : ℕ → sProp 𝕄
  | 0 => Pipeline.ΦA spec1 c
  | _ + 1 => iprop((iprop(∃ z, owns (c : Thread nD τ) (Memref.whole cc1_scratch0) fullShare (impOf (F := F) z)))
      ∗ (iprop(∃ w, owns (c : Thread nD τ) (Memref.whole cc1_scratch1) fullShare (gramOf (F := F) w))) ∗ others c ∗ (∃ r, prngReg c r))

/-- What the call is handed besides its windows: the two scratches at anything, the other calls' buffers and the
    generator register; -/
theorem handed_open (c : Dev nD) :
    (Pipeline.ΦA spec1 c : sProp 𝕄)
      ⊢ iprop((∃ d, owns (c : Thread nD τ) (Memref.whole cc1_scratch0) fullShare d) ∗ (∃ d, owns (c : Thread nD τ) (Memref.whole cc1_scratch1) fullShare d) ∗ others c ∗ (∃ r, prngReg c r)) := by
  unfold Pipeline.ΦA others; rw [scopedRest1_eq]; simp only [owns_whole]
  iintro ⟨⟨Ha, Hb, Hc, Hd, He, Hf, HS0, HS1, Hg, Hh⟩, Hp⟩
  isplitl [HS0]; · iexact HS0
  isplitl [HS1]; · iexact HS1
  isplitr [Hp]
  · isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    iexact Hh
  iexact Hp

/-- and the converse. -/
theorem handed_close (c : Dev nD) :
    iprop((∃ d, owns (c : Thread nD τ) (Memref.whole cc1_scratch0) fullShare d) ∗ (∃ d, owns (c : Thread nD τ) (Memref.whole cc1_scratch1) fullShare d) ∗ others c ∗ (∃ r, prngReg c r))
      ⊢ (Pipeline.ΦA spec1 c : sProp 𝕄) := by
  unfold Pipeline.ΦA others; rw [scopedRest1_eq]; simp only [owns_whole]
  iintro ⟨HS0, HS1, ⟨Ha, Hb, Hc, Hd, He, Hf, Hg, Hh⟩, Hp⟩
  isplitr [Hp]
  · isplitl [Ha]; · iexact Ha
    isplitl [Hb]; · iexact Hb
    isplitl [Hc]; · iexact Hc
    isplitl [Hd]; · iexact Hd
    isplitl [He]; · iexact He
    isplitl [Hf]; · iexact Hf
    isplitl [HS0]; · iexact HS0
    isplitl [HS1]; · iexact HS1
    isplitl [Hg]; · iexact Hg
    iexact Hh
  iexact Hp

/-- Forgetting what the scratches hold gives back what the call was handed. -/
theorem carried_out (c : Dev nD) (n : ℕ) : (carried (F := F) c n : sProp 𝕄) ⊢ Pipeline.ΦA spec1 c := by
  cases n with
  | zero => exact Entails.refl _
  | succ n =>
    refine BIBase.Entails.trans ?_ (handed_close c)
    unfold carried
    iintro ⟨⟨%z, HS0⟩, ⟨%w, HS1⟩, Ho, Hg⟩
    isplitl [HS0]; · iexists _; iexact HS0
    isplitl [HS1]; · iexists _; iexact HS1
    isplitl [Ho]; · iexact Ho
    iexact Hg

/-- The call's proof data: after the body an input's buffer holds its block, an output's what the body computes from the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => scoresOf (iblk1 V c 0 t) (iblk1 V c 1 t) (iblk1 V c 2 t) (iblk1 V c 3 t) (iblk1 V c 4 t) (iblk1 V c 5 t)
  Φ t := carried c t.val
  q _ := fullShare
  owed _ := 0

/-- The arrays the main call starts from are the valuation's. -/
theorem A_eq1 (c : Dev nD) (w : Fin cfg1.W) : (dat1 V c).A w = V c (Pipeline.arrRef spec1 w) := by
  dsimp only [dat1]
/-- After a trip of the main call: the images' block is unchanged, -/
theorem after1_0 (c : Dev nD) (t : Fin cfg1.N) : (dat1 V c).after 0 t = iblk1 V c 0 t := by dsimp only [dat1]
/-- the transposed words', -/
theorem after1_1 (c : Dev nD) (t : Fin cfg1.N) : (dat1 V c).after 1 t = iblk1 V c 1 t := by dsimp only [dat1]
/-- the masks', -/
theorem after1_2 (c : Dev nD) (t : Fin cfg1.N) : (dat1 V c).after 2 t = iblk1 V c 2 t := by dsimp only [dat1]
/-- the norms', -/
theorem after1_3 (c : Dev nD) (t : Fin cfg1.N) : (dat1 V c).after 3 t = iblk1 V c 3 t := by dsimp only [dat1]
/-- the membership matrix's, -/
theorem after1_4 (c : Dev nD) (t : Fin cfg1.N) : (dat1 V c).after 4 t = iblk1 V c 4 t := by dsimp only [dat1]
/-- its transpose's, -/
theorem after1_5 (c : Dev nD) (t : Fin cfg1.N) : (dat1 V c).after 5 t = iblk1 V c 5 t := by dsimp only [dat1]
/-- and the scores' block holds the scores of the others. -/
theorem after1_6 (c : Dev nD) (t : Fin cfg1.N) : (dat1 V c).after 6 t = scoresOf (iblk1 V c 0 t) (iblk1 V c 1 t) (iblk1 V c 2 t) (iblk1 V c 3 t) (iblk1 V c 4 t) (iblk1 V c 5 t) := by dsimp only [dat1]

/-- Input window 0's buffer holds its block when the body starts. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1's buffer holds its block when the body starts. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
/-- Input window 2's buffer holds its block when the body starts. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
/-- Input window 3's buffer holds its block when the body starts. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
/-- Input window 4's buffer holds its block when the body starts. -/
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
/-- Input window 5's buffer holds its block when the body starts. -/
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The main call's body, from its blocks and scratch at a grid point, leaves the blocks and scratch stated for it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.castSucc = carried c t.val from rfl,
    show (dat1 V c).Φ t.succ = carried c (t.val + 1) from rfl,
    after1_0, after1_1, after1_2, after1_3, after1_4, after1_5, after1_6]
  by_cases hz : t.val = 0
  · have hΦ : (carried (F := F) c t.val : sProp 𝕄) = Pipeline.ΦA spec1 c := by rw [hz]; rfl
    rw [hΦ]; unfold carried
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := (handed_open (F := F) c) $$ HΦ
    icases HΦ with ⟨HS0, HS1, Hq, Hg⟩
    iapply (run_first c (grid1.coords t) _ _ _ _ _ _ _ _ _ _ _ _ _ _ _ _ _ _ ((condFirst_iff t).mpr hz) (iblk1 V c 0 t) (iblk1 V c 1 t) (iblk1 V c 2 t) (iblk1 V c 3 t) (iblk1 V c 4 t) (iblk1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hq Hg]
    · isplitl [HS0]; · iexists _; iexact HS0
      isplitl [HS1]; · iexists _; iexact HS1
      isplitl [Hq]; · iexact Hq
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := ⟨t.val - 1, by omega⟩
    have hΦ : (carried (F := F) c t.val : sProp 𝕄) = carried c (n + 1) := by rw [hn]
    rw [hΦ]; unfold carried
    iintro ⟨⟨⟨%z, HS0⟩, ⟨%u, HS1⟩, Hq, Hg⟩, Ho, ⟨%d0, H0⟩, ⟨%d1, H1⟩, ⟨%d2, H2⟩, ⟨%d3, H3⟩, ⟨%d4, H4⟩, ⟨%d5, H5⟩, ⟨%d6, H6⟩⟩
    iapply (run_next c (grid1.coords t) _ _ _ _ _ _ _ _ _ _ _ _ _ _ _ _ _ _ (fun h => hz ((condFirst_iff t).mp h)) (iblk1 V c 0 t) (iblk1 V c 1 t) (iblk1 V c 2 t) (iblk1 V c 3 t) (iblk1 V c 4 t) (iblk1 V c 5 t) z u Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hq Hg]
    · isplitl [HS0]; · iexists _; iexact HS0
      isplitl [HS1]; · iexists _; iexact HS1
      isplitl [Hq]; · iexact Hq
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of call 1, at every point. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (sound_body1 V c t) rfl .rfl fun _ => .rfl

end Cert.KernelIdeal.Whole

end
-- ==== Proof.Ideal.Launch.lean ====
module

public import proofs.«01_k».proof.Proof.Ideal.Ends
public import proofs.«01_k».proof.Proof.Ideal.Scores
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The whole program's run

The buffers' contents at each boundary of the program, from the launch to the return: a host stretch applies its operations,
a kernel call leaves its arrays at what its points write back. -/

/-- A valuation read at the TensorCore's references. -/
abbrev atRefs (W : Dev nD → Valuation τ sig (Elt F)) : (c : Dev nD) → (b : Ref sig .tc) → Buf (Elt F) ((c : Thread nD τ).loc b) := fun c b => W c b

/-- At launch. -/
abbrev B0 : Dev nD → Valuation τ sig (Elt F) := fun c b => (s₀ m ρ).mem ((c : Dev nD), b)
/-- After the captions are laid out in rows (entry of call 0). -/
abbrev B1 (c : Dev nD) : Valuation τ sig (Elt F) := StableHlo.after hostOps0 (B0 m ρ c)
/-- After call 0. -/
def B2 (c : Dev nD) : Valuation τ sig (Elt F) :=
  Pipeline.withArrays spec0 c (B1 m ρ c) fun w => (dat0 (atRefs (B1 m ρ)) c).arrAt w cfg0.N
/-- What the first call leaves in each of its arrays, -/
theorem B2_arr (c : Dev nD) (w : Fin cfg0.W) :
    B2 m ρ c (Proc.devRef .tc (Pipeline.arrRef spec0 w)) = (dat0 (atRefs (B1 m ρ)) c).arrAt w cfg0.N := by
  unfold B2; exact Pipeline.withArrays_arr spec0 launch0.win.arr_inj c _ _ w
/-- and in every buffer that is none of them. -/
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- A buffer that is no output array of call 0 keeps its contents across it. -/
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((dat0 (atRefs (B1 m ρ)) c).arrAt_in w (h w rfl) _).trans (A_eq0 (atRefs (B1 m ρ)) c w))
  · exact B2_of_ne m ρ c r fun w e => hw ⟨w, e⟩
/-- The first call's arrays at its end. -/
theorem B2_arrays (c : Dev nD) (w : Fin cfg0.W) :
    (dat0 (atRefs (B1 m ρ)) c).arrAt w cfg0.N = atRefs (B2 m ρ) c (Pipeline.arrRef spec0 w) := (B2_arr m ρ c w).symm
/-- Every other buffer keeps what it held before the first call. -/
theorem B2_rest (c : Dev nD) : ∀ b, b ∉ Finset.univ.image (Pipeline.arrRef spec0) → atRefs (B2 m ρ) c b = atRefs (B1 m ρ) c b :=
  fun b hb => B2_of_ne m ρ c b fun w e => hb (Finset.mem_image.mpr ⟨w, Finset.mem_univ _, e⟩)
/-- After the mask of the words is computed, -/
abbrev B3 (c : Dev nD) : Valuation τ sig (Elt F) := StableHlo.after hostOps1 (B2 m ρ c)
/-- each word's caption number, -/
abbrev B4 (c : Dev nD) : Valuation τ sig (Elt F) := StableHlo.after hostOps1_1 (B3 m ρ c)
/-- and the caption membership matrix and its transpose (entry of call 1). -/
abbrev B5 (c : Dev nD) : Valuation τ sig (Elt F) := StableHlo.after hostOps1_2 (B4 m ρ c)
/-- After call 1. -/
def B6 (c : Dev nD) : Valuation τ sig (Elt F) :=
  Pipeline.withArrays spec1 c (B5 m ρ c) fun w => (dat1 (atRefs (B5 m ρ)) c).arrAt w cfg1.N
/-- What the main call leaves in each of its arrays, -/
theorem B6_arr (c : Dev nD) (w : Fin cfg1.W) :
    B6 m ρ c (Proc.devRef .tc (Pipeline.arrRef spec1 w)) = (dat1 (atRefs (B5 m ρ)) c).arrAt w cfg1.N := by
  unfold B6; exact Pipeline.withArrays_arr spec1 launch1.win.arr_inj c _ _ w
/-- and in every buffer that is none of them. -/
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- A buffer that is no output array of call 1 keeps its contents across it. -/
theorem B6_of (c : Dev nD) (r : Ref sig .tc) (h : ∀ w : Fin cfg1.W, Pipeline.arrRef spec1 w = r → (cfg1.win w).isOut = false) :
    B6 m ρ c (Proc.devRef .tc r) = B5 m ρ c (Proc.devRef .tc r) := by
  by_cases hw : ∃ w : Fin cfg1.W, Pipeline.arrRef spec1 w = r
  · obtain ⟨w, rfl⟩ := hw
    exact (B6_arr m ρ c w).trans (((dat1 (atRefs (B5 m ρ)) c).arrAt_in w (h w rfl) _).trans (A_eq1 (atRefs (B5 m ρ)) c w))
  · exact B6_of_ne m ρ c r fun w e => hw ⟨w, e⟩
/-- The main call's arrays at its end. -/
theorem B6_arrays (c : Dev nD) (w : Fin cfg1.W) :
    (dat1 (atRefs (B5 m ρ)) c).arrAt w cfg1.N = atRefs (B6 m ρ) c (Pipeline.arrRef spec1 w) := (B6_arr m ρ c w).symm
/-- Every other buffer keeps what it held before the main call. -/
theorem B6_rest (c : Dev nD) : ∀ b, b ∉ Finset.univ.image (Pipeline.arrRef spec1) → atRefs (B6 m ρ) c b = atRefs (B5 m ρ) c b :=
  fun b hb => B6_of_ne m ρ c b fun w e => hb (Finset.mem_image.mpr ⟨w, Finset.mem_univ _, e⟩)
/-- After call 2. -/
def B7 (c : Dev nD) : Valuation τ sig (Elt F) :=
  Pipeline.withArrays spec2 c (B6 m ρ c) fun w => (dat2 (atRefs (B6 m ρ)) c).arrAt w cfg2.N
/-- What the last call leaves in each of its arrays, -/
theorem B7_arr (c : Dev nD) (w : Fin cfg2.W) :
    B7 m ρ c (Proc.devRef .tc (Pipeline.arrRef spec2 w)) = (dat2 (atRefs (B6 m ρ)) c).arrAt w cfg2.N := by
  unfold B7; exact Pipeline.withArrays_arr spec2 launch2.win.arr_inj c _ _ w
/-- and in every buffer that is none of them. -/
theorem B7_of_ne (c : Dev nD) (b : Ref sig .tc) (hb : ∀ w, Pipeline.arrRef spec2 w ≠ b) :
    B7 m ρ c (Proc.devRef .tc b) = B6 m ρ c (Proc.devRef .tc b) := by
  unfold B7; exact Pipeline.withArrays_of_ne spec2 c _ _ b hb
/-- A buffer that is no output array of call 2 keeps its contents across it. -/
theorem B7_of (c : Dev nD) (r : Ref sig .tc) (h : ∀ w : Fin cfg2.W, Pipeline.arrRef spec2 w = r → (cfg2.win w).isOut = false) :
    B7 m ρ c (Proc.devRef .tc r) = B6 m ρ c (Proc.devRef .tc r) := by
  by_cases hw : ∃ w : Fin cfg2.W, Pipeline.arrRef spec2 w = r
  · obtain ⟨w, rfl⟩ := hw
    exact (B7_arr m ρ c w).trans (((dat2 (atRefs (B6 m ρ)) c).arrAt_in w (h w rfl) _).trans (A_eq2 (atRefs (B6 m ρ)) c w))
  · exact B7_of_ne m ρ c r fun w e => hw ⟨w, e⟩
/-- The last call's arrays at its end. -/
theorem B7_arrays (c : Dev nD) (w : Fin cfg2.W) :
    (dat2 (atRefs (B6 m ρ)) c).arrAt w cfg2.N = atRefs (B7 m ρ) c (Pipeline.arrRef spec2 w) := (B7_arr m ρ c w).symm
/-- Every other buffer keeps what it held before the last call. -/
theorem B7_rest (c : Dev nD) : ∀ b, b ∉ Finset.univ.image (Pipeline.arrRef spec2) → atRefs (B7 m ρ) c b = atRefs (B6 m ρ) c b :=
  fun b hb => B7_of_ne m ρ c b fun w e => hb (Finset.mem_image.mpr ⟨w, Finset.mem_univ _, e⟩)
/-- At the return. -/
abbrev B8 (c : Dev nD) : Valuation τ sig (Elt F) := StableHlo.after hostOps3 (B7 m ρ c)

/-- The arguments. -/
abbrev argRefs : List (Ref sig .tc) := [main_arg0, main_arg1, main_arg2, main_arg3]

/-! No host stretch writes an argument and no call has one as an output, so each ends as launched. -/

/-- No argument is an output of the first call, -/
theorem args_in0 : ∀ a ∈ argRefs, ∀ w : Fin cfg0.W, Pipeline.arrRef spec0 w = a → (cfg0.win w).isOut = false :=
  ListAll.forall_mem_of_all_decide (by decide +kernel)
/-- of the main call, -/
theorem args_in1 : ∀ a ∈ argRefs, ∀ w : Fin cfg1.W, Pipeline.arrRef spec1 w = a → (cfg1.win w).isOut = false :=
  ListAll.forall_mem_of_all_decide (by decide +kernel)
/-- or of the last call, -/
theorem args_in2 : ∀ a ∈ argRefs, ∀ w : Fin cfg2.W, Pipeline.arrRef spec2 w = a → (cfg2.win w).isOut = false :=
  ListAll.forall_mem_of_all_decide (by decide +kernel)
/-- and no stretch of host operations writes one: not the first, -/
theorem args_hostOps0 : ∀ a ∈ argRefs, a ∉ hostOps0_W :=
  ListAll.forall_mem_of_all_decide (by decide +kernel)
/-- not the second, -/
theorem args_hostOps1 : ∀ a ∈ argRefs, a ∉ hostOps1_W :=
  ListAll.forall_mem_of_all_decide (by decide +kernel)
/-- not the called division, -/
theorem args_hostOps1_1 : ∀ a ∈ argRefs, a ∉ hostOps1_1_W :=
  ListAll.forall_mem_of_all_decide (by decide +kernel)
/-- not what follows it, -/
theorem args_hostOps1_2 : ∀ a ∈ argRefs, a ∉ hostOps1_2_W :=
  ListAll.forall_mem_of_all_decide (by decide +kernel)
/-- not the last. -/
theorem args_hostOps3 : ∀ a ∈ argRefs, a ∉ hostOps3_W :=
  ListAll.forall_mem_of_all_decide (by decide +kernel)
/-- Every argument holds its launch contents when the main call starts, -/
theorem B5_args (c : Dev nD) (a : Ref sig .tc) (ha : a ∈ argRefs) : B5 m ρ c (Proc.devRef .tc a) = m ((c : Thread nD τ).loc a) :=
  (StableHlo.after_of_writes_sub hostOps1_2 _ hostOps1_2_writes (args_hostOps1_2 a ha)).trans <|
  (StableHlo.after_of_writes_sub hostOps1_1 _ hostOps1_1_writes (args_hostOps1_1 a ha)).trans <|
  (StableHlo.after_of_writes_sub hostOps1 _ hostOps1_writes (args_hostOps1 a ha)).trans <|
  (B2_of m ρ c a (args_in0 a ha)).trans (StableHlo.after_of_writes_sub hostOps0 _ hostOps0_writes (args_hostOps0 a ha))
/-- and at the end. -/
theorem B8_args (c : Dev nD) (a : Ref sig .tc) (ha : a ∈ argRefs) : B8 m ρ c (Proc.devRef .tc a) = m ((c : Thread nD τ).loc a) :=
  (StableHlo.after_of_writes_sub hostOps3 _ hostOps3_writes (args_hostOps3 a ha)).trans <|
  (B7_of m ρ c a (args_in2 a ha)).trans <| (B6_of m ρ c a (args_in1 a ha)).trans (B5_args m ρ c a ha)

/-! ## The segments -/

/-- Every call's proof data at its entry contents. -/
def pdats : (p : Fin 3) → (c : Dev nD) → Dat τ (Elt F) Unit ℕ (UR sig nD τ) ℕ (Pipeline.pin (pcfgs (F := F)) adm p) c
  | ⟨0, _⟩ => fun c => dat0 (atRefs (B1 m ρ)) c
  | ⟨1, _⟩ => fun c => dat1 (atRefs (B5 m ρ)) c
  | ⟨2, _⟩ => fun c => dat2 (atRefs (B6 m ρ)) c
/-- No variants are needed. -/
abbrev vars₀ : Variants := Variants.none
/-- No semaphore is waited on between devices, -/
abbrev lev : GSem nD τ sig → Finset Unit := fun _ => ∅
/-- so all levels are zero. -/
abbrev lvl : GSem nD τ sig → Unit → ℕ := fun _ _ => 0
/-- What rides along beside the buffers: the generator register and the core's empty debts. -/
abbrev Rest (c : Dev nD) : sProp 𝕄 := iprop((∃ r, prngReg c r) ∗ ∃ W, owes (c : Thread nD τ) (0 : CellTallies nD τ sig Unit) W)
/-- A host stretch as a segment over the unscoped buffers. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars₀ lev lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- A buffer that is not scoped is among those owned throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state at a boundary: every unscoped buffer at the boundary's contents, and the rest. -/
abbrev State (W : Dev nD → Valuation τ sig (Elt F)) (c : Dev nD) : sProp 𝕄 :=
  iprop(StableHlo.held (c : Thread nD τ) (Pipeline.ucRefs τ sig) (W c) ∗ Rest c)
/-- The last thread state, without the debts. -/
abbrev Last (c : Dev nD) : sProp 𝕄 := iprop(StableHlo.held (c : Thread nD τ) (Pipeline.ucRefs τ sig) (B8 m ρ c) ∗ ∃ r, prngReg c r)

set_option backward.isDefEq.respectTransparency.types false in
/-- Call 0 as a segment: from every unscoped buffer at `B1` to every one at `B2`. -/
def seg_call0 : Pipeline.RegionSeg (pcfgs (F := F)) adm (pdats m ρ) () defs₀ vars₀ lev lvl 0 where
  win := launch0.win.to₀
  block_pos := launch0.block_pos
  stage_whole := launch0.stage_whole
  K := PEmpty
  osem k := k.elim
  ho := Pipeline.OwnSemFacts.none _
  hbody c := (body_obligation0 (atRefs (B1 m ρ)) c).loose
  hwaits := Pipeline.hwaits_of_owed_zero _ _ _ _ lev lvl 0 fun _ _ => rfl
  pre c := State (B1 m ρ) c
  post c := State (B2 m ρ) c
  X c := iprop(∃ r, prngReg c r)
  Y c := iprop(∃ r, prngReg c r)
  Z c := Pipeline.unscopedRest (Ix := Unit) (Name := ℕ) (U := UR sig nD τ) (Lvl := ℕ) spec0 c (atRefs (B1 m ρ) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (atRefs (B1 m ρ) c) (A_eq0 (atRefs (B1 m ρ)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (atRefs (B1 m ρ) c) (atRefs (B2 m ρ) c) ((pdats m ρ 0 c).arrAt · cfg0.N) (B2_arrays m ρ c) (B2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: from every unscoped buffer at `B5` to every one at `B6`. -/
def seg_call1 : Pipeline.RegionSeg (pcfgs (F := F)) adm (pdats m ρ) () defs₀ vars₀ lev lvl 1 where
  win := launch1.win.to₀
  block_pos := launch1.block_pos
  stage_whole := launch1.stage_whole
  K := PEmpty
  osem k := k.elim
  ho := Pipeline.OwnSemFacts.none _
  hbody c := (body_obligation1 (atRefs (B5 m ρ)) c).loose
  hwaits := Pipeline.hwaits_of_owed_zero _ _ _ _ lev lvl 1 fun _ _ => rfl
  pre c := State (B5 m ρ) c
  post c := State (B6 m ρ) c
  X c := iprop(∃ r, prngReg c r)
  Y c := iprop(∃ r, prngReg c r)
  Z c := Pipeline.unscopedRest (Ix := Unit) (Name := ℕ) (U := UR sig nD τ) (Lvl := ℕ) spec1 c (atRefs (B5 m ρ) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (atRefs (B5 m ρ) c) (A_eq1 (atRefs (B5 m ρ)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = carried c cfg1.N from rfl]
    refine (carried_out c cfg1.N).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (atRefs (B5 m ρ) c) (atRefs (B6 m ρ) c) ((pdats m ρ 1 c).arrAt · cfg1.N) (B6_arrays m ρ c) (B6_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: from every unscoped buffer at `B6` to every one at `B7`. -/
def seg_call2 : Pipeline.RegionSeg (pcfgs (F := F)) adm (pdats m ρ) () defs₀ vars₀ lev lvl 2 where
  win := launch2.win.to₀
  block_pos := launch2.block_pos
  stage_whole := launch2.stage_whole
  K := PEmpty
  osem k := k.elim
  ho := Pipeline.OwnSemFacts.none _
  hbody c := (body_obligation2 (atRefs (B6 m ρ)) c).loose
  hwaits := Pipeline.hwaits_of_owed_zero _ _ _ _ lev lvl 2 fun _ _ => rfl
  pre c := State (B6 m ρ) c
  post c := State (B7 m ρ) c
  X c := iprop(∃ r, prngReg c r)
  Y c := iprop(∃ r, prngReg c r)
  Z c := Pipeline.unscopedRest (Ix := Unit) (Name := ℕ) (U := UR sig nD τ) (Lvl := ℕ) spec2 c (atRefs (B6 m ρ) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (atRefs (B6 m ρ) c) (A_eq2 (atRefs (B6 m ρ)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (atRefs (B6 m ρ) c) (atRefs (B7 m ρ) c) ((pdats m ρ 2 c).arrAt · cfg2.N) (B7_arrays m ρ c) (B7_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev pieces : List (Pipeline.Seg (pcfgs (F := F)) adm (pdats m ρ) () defs₀ vars₀ lev lvl) :=
  [ .host (hostSeg hostOps0 hostOps0_sub hostOps0_fresh (B0 m ρ)),
    .region (seg_call0 m ρ),
    .host (hostSeg hostOps1 hostOps1_sub hostOps1_fresh (B2 m ρ)),
    .host (hostSeg hostOps1_1 hostOps1_1_sub hostOps1_1_fresh (B3 m ρ)),
    .host (hostSeg hostOps1_2 hostOps1_2_sub hostOps1_2_fresh (B4 m ρ)),
    .region (seg_call1 m ρ),
    .region (seg_call2 m ρ),
    .host (hostSeg hostOps3 hostOps3_sub hostOps3_fresh (B7 m ρ)) ]
/-- The program is its calls and host stretches run in order. -/
theorem main_pieces (c : Dev nD) : main (F := F) c = Pipeline.Seg.run (pieces m ρ) := (main_chain c).trans (by chain_rfl)

set_option backward.isDefEq.respectTransparency.types false in
/-- Every weakly fair execution terminates without a fault, and in every final state every unscoped buffer is at the last
    boundary's contents and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = B8 m ρ c b) ∧ r.2.sem = fun _ => 0) :=
  Pipeline.θ_run_regions_kit_sems (pcfgs (F := F)) adm (pdats m ρ) () cellOf_inj emb₁ defs₀ vars₀ lev lvl m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := State (B0 m ρ)) (Tₙ := Last m ρ)
    (hch := ⟨fun _ => .rfl, fun _ => .rfl, fun _ => .rfl, fun _ => .rfl, fun _ => .rfl, fun _ => .rfl, fun _ => .rfl, fun _ => .rfl, fun c => by
      refine (show (State (B8 m ρ) c : sProp 𝕄) ⊢ iprop(Last m ρ c ∗ ∃ W, owes (c : Thread nD τ) (0 : CellTallies nD τ sig Unit) W) from ?_)
      iintro ⟨Hh, Hp, HO⟩
      isplitl [Hh Hp]
      · isplitl [Hh]; · iexact Hh
        iexact Hp
      iexact HO⟩)
    (hinit := by
      refine Pipeline.initEach lev lvl fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h hz => ⟨h, funext fun g => hz g (.inr (regions_no_unscoped g.2))⟩)

/-- The result and the arguments at the end of every run. -/
theorem run_values : θ_run defs (onTc (τ := τ) (main (F := F))) ⟨m, fun _ => 0, ρ⟩ (fun r => ∀ c : Dev nD,
      r.2.mem ((c.tc : Thread nD τ).loc main_v23) = B8 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1 c _ (mem_uc main_v23 (by decide)),
    (h.1 c _ (mem_uc main_arg0 (by decide))).trans (B8_args m ρ c main_arg0 (by decide)),
    (h.1 c _ (mem_uc main_arg1 (by decide))).trans (B8_args m ρ c main_arg1 (by decide)),
    (h.1 c _ (mem_uc main_arg2 (by decide))).trans (B8_args m ρ c main_arg2 (by decide)),
    (h.1 c _ (mem_uc main_arg3 (by decide))).trans (B8_args m ρ c main_arg3 (by decide))⟩) (run_all m ρ)

/-- The frame: every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
    (h.1 c _ (mem_uc main_arg0 (by decide))).trans (B8_args m ρ c main_arg0 (by decide)),
    (h.1 c _ (mem_uc main_arg1 (by decide))).trans (B8_args m ρ c main_arg1 (by decide)),
    (h.1 c _ (mem_uc main_arg2 (by decide))).trans (B8_args m ρ c main_arg2 (by decide)),
    (h.1 c _ (mem_uc main_arg3 (by decide))).trans (B8_args m ρ c main_arg3 (by decide))⟩, h.2⟩) (run_all m ρ)

end Cert.KernelIdeal.Whole

end
-- ==== Proof.Ideal.Scratch.lean ====
module

public import proofs.«01_k».proof.Proof.Ideal.Blocks
public import Idealize.ShloMosaic.Lib.Pointwise
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What the two scratch arrays hold, read at an index -/

/-- A band of 36 rows written over an array of 320: in the band its row, elsewhere what was there. -/
theorem canon_band (o : ℕ) (inb : ∀ a, (![o, 0] : Fin 2 → ℕ) a + (![36, 1024] : Fin 2 → ℕ) a ≤ S320x1024.size a)
    (v : FVec Ideal S36x1024 .bf16) (L : List (View.Piece (Elt Ideal) S320x1024 .bf16)) (r : Fin 320) (d : Fin 1024) :
    View.canon ((⟨Rect.unit (s := S320x1024) ![o, 0] ![36, 1024] inb, v⟩ : View.Piece (Elt Ideal) S320x1024 .bf16) :: L) (ix2 r d)
      = if h : o ≤ r.val ∧ r.val < o + 36 then v (ix2 ⟨r.val - o, by omega⟩ d) else View.canon L (ix2 r d) := by
  by_cases h : o ≤ r.val ∧ r.val < o + 36
  · rw [dif_pos h]
    have e : (ix2 r d : S320x1024.Idx) = (Rect.unit (s := S320x1024) ![o, 0] ![36, 1024] inb).emb
        (ix2 (⟨r.val - o, by omega⟩ : Fin 36) d : S36x1024.Idx) := by
      funext a
      match a with
      | ⟨0, _⟩ => exact Fin.ext (by show r.val = o + 1 * (r.val - o); omega)
      | ⟨1, _⟩ => exact Fin.ext (by show d.val = 0 + 1 * d.val; omega)
    rw [e, View.canon_cons_emb]
  · rw [dif_neg h]
    refine View.canon_cons_of_not_mem _ L fun hm => h ?_
    exact ((Rect.mem_set_unit (inb := inb)).mp hm) 0

/-- A diagonal block of 40 by 40 written over an array of 320 by 320. -/
theorem canon_block (o : ℕ) (inb : ∀ a, (![o, o] : Fin 2 → ℕ) a + (![40, 40] : Fin 2 → ℕ) a ≤ S320x320.size a)
    (v : FVec Ideal S40x40 .f32) (L : List (View.Piece (Elt Ideal) S320x320 .f32)) (r q : Fin 320) :
    View.canon ((⟨Rect.unit (s := S320x320) ![o, o] ![40, 40] inb, v⟩ : View.Piece (Elt Ideal) S320x320 .f32) :: L) (ix2 r q)
      = if h : (o ≤ r.val ∧ r.val < o + 40) ∧ (o ≤ q.val ∧ q.val < o + 40) then v (ix2 ⟨r.val - o, by omega⟩ ⟨q.val - o, by omega⟩)
        else View.canon L (ix2 r q) := by
  by_cases h : (o ≤ r.val ∧ r.val < o + 40) ∧ (o ≤ q.val ∧ q.val < o + 40)
  · rw [dif_pos h]
    have e : (ix2 r q : S320x320.Idx) = (Rect.unit (s := S320x320) ![o, o] ![40, 40] inb).emb
        (ix2 (⟨r.val - o, by omega⟩ : Fin 40) (⟨q.val - o, by omega⟩ : Fin 40) : S40x40.Idx) := by
      funext a
      match a with
      | ⟨0, _⟩ => exact Fin.ext (by show r.val = o + 1 * (r.val - o); omega)
      | ⟨1, _⟩ => exact Fin.ext (by show q.val = o + 1 * (q.val - o); omega)
    rw [e, View.canon_cons_emb]
  · rw [dif_neg h]
    refine View.canon_cons_of_not_mem _ L fun hm => h ?_
    exact ⟨((Rect.mem_set_unit (inb := inb)).mp hm) 0, ((Rect.mem_set_unit (inb := inb)).mp hm) 1⟩

/-- One piece over the whole array. -/
theorem canon_rows (inb : ∀ a, (![0, 0] : Fin 2 → ℕ) a + (![320, 1024] : Fin 2 → ℕ) a ≤ S320x1024.size a) (v : FVec Ideal S320x1024 .bf16) (r : Fin 320) (d : Fin 1024) :
    View.canon ([⟨Rect.unit (s := S320x1024) ![0, 0] ![320, 1024] inb, v⟩] : List (View.Piece (Elt Ideal) S320x1024 .bf16)) (ix2 r d) = v (ix2 r d) :=
  congrFun (View.canon_cons_unit_lit (S := S320x1024) (Val := Elt Ideal) (e := .bf16) inb v [] (fun a => by fin_cases a <;> rfl)) (ix2 r d)

/-- One piece over the whole array. -/
theorem canon_square (inb : ∀ a, (![0, 0] : Fin 2 → ℕ) a + (![320, 320] : Fin 2 → ℕ) a ≤ S320x320.size a) (v : FVec Ideal S320x320 .f32) (r : Fin 320) (d : Fin 320) :
    View.canon ([⟨Rect.unit (s := S320x320) ![0, 0] ![320, 320] inb, v⟩] : List (View.Piece (Elt Ideal) S320x320 .f32)) (ix2 r d) = v (ix2 r d) :=
  congrFun (View.canon_cons_unit_lit (S := S320x320) (Val := Elt Ideal) (e := .f32) inb v [] (fun a => by fin_cases a <;> rfl)) (ix2 r d)

/-- A region's row of image 0 in the scratch. -/
theorem row0 (x0 : FVec Ideal S8x36x1024 .f32) (q : Fin 36) (d : Fin 1024) :
    k1_pay4 (F := Ideal) (View.ld x0 (Rect.unit (s := S8x36x1024) ![0, 0, 0] ![1, 36, 1024] inb_S8x36x1024_S1x36x1024_0_0_0)) (ix2 q d)
      = x0 (ix3 0 q d) := by
  pointwise [k1_pay4]
/-- The products of the rows of image 0. -/
theorem gram0 (v : FVec Ideal S320x1024 .bf16) (p q : Fin 40) :
    k1_pay14 (F := Ideal) v (ix2 p q) = ∑ d : Fin 1024, v (ix2 (⟨0 + p.val, by omega⟩ : Fin 320) d) * v (ix2 (⟨0 + q.val, by omega⟩ : Fin 320) d) := by
  pointwise [k1_pay14]

/-- A region's row of image 1 in the scratch. -/
theorem row1 (x0 : FVec Ideal S8x36x1024 .f32) (q : Fin 36) (d : Fin 1024) :
    k1_pay5 (F := Ideal) (View.ld x0 (Rect.unit (s := S8x36x1024) ![1, 0, 0] ![1, 36, 1024] inb_S8x36x1024_S1x36x1024_1_0_0)) (ix2 q d)
      = x0 (ix3 1 q d) := by
  pointwise [k1_pay5]
/-- The products of the rows of image 1. -/
theorem gram1 (v : FVec Ideal S320x1024 .bf16) (p q : Fin 40) :
    k1_pay15 (F := Ideal) v (ix2 p q) = ∑ d : Fin 1024, v (ix2 (⟨40 + p.val, by omega⟩ : Fin 320) d) * v (ix2 (⟨40 + q.val, by omega⟩ : Fin 320) d) := by
  pointwise [k1_pay15]

/-- A region's row of image 2 in the scratch. -/
theorem row2 (x0 : FVec Ideal S8x36x1024 .f32) (q : Fin 36) (d : Fin 1024) :
    k1_pay6 (F := Ideal) (View.ld x0 (Rect.unit (s := S8x36x1024) ![2, 0, 0] ![1, 36, 1024] inb_S8x36x1024_S1x36x1024_2_0_0)) (ix2 q d)
      = x0 (ix3 2 q d) := by
  pointwise [k1_pay6]
/-- The products of the rows of image 2. -/
theorem gram2 (v : FVec Ideal S320x1024 .bf16) (p q : Fin 40) :
    k1_pay16 (F := Ideal) v (ix2 p q) = ∑ d : Fin 1024, v (ix2 (⟨80 + p.val, by omega⟩ : Fin 320) d) * v (ix2 (⟨80 + q.val, by omega⟩ : Fin 320) d) := by
  pointwise [k1_pay16]

/-- A region's row of image 3 in the scratch. -/
theorem row3 (x0 : FVec Ideal S8x36x1024 .f32) (q : Fin 36) (d : Fin 1024) :
    k1_pay7 (F := Ideal) (View.ld x0 (Rect.unit (s := S8x36x1024) ![3, 0, 0] ![1, 36, 1024] inb_S8x36x1024_S1x36x1024_3_0_0)) (ix2 q d)
      = x0 (ix3 3 q d) := by
  pointwise [k1_pay7]
/-- The products of the rows of image 3. -/
theorem gram3 (v : FVec Ideal S320x1024 .bf16) (p q : Fin 40) :
    k1_pay17 (F := Ideal) v (ix2 p q) = ∑ d : Fin 1024, v (ix2 (⟨120 + p.val, by omega⟩ : Fin 320) d) * v (ix2 (⟨120 + q.val, by omega⟩ : Fin 320) d) := by
  pointwise [k1_pay17]

/-- A region's row of image 4 in the scratch. -/
theorem row4 (x0 : FVec Ideal S8x36x1024 .f32) (q : Fin 36) (d : Fin 1024) :
    k1_pay8 (F := Ideal) (View.ld x0 (Rect.unit (s := S8x36x1024) ![4, 0, 0] ![1, 36, 1024] inb_S8x36x1024_S1x36x1024_4_0_0)) (ix2 q d)
      = x0 (ix3 4 q d) := by
  pointwise [k1_pay8]
/-- The products of the rows of image 4. -/
theorem gram4 (v : FVec Ideal S320x1024 .bf16) (p q : Fin 40) :
    k1_pay18 (F := Ideal) v (ix2 p q) = ∑ d : Fin 1024, v (ix2 (⟨160 + p.val, by omega⟩ : Fin 320) d) * v (ix2 (⟨160 + q.val, by omega⟩ : Fin 320) d) := by
  pointwise [k1_pay18]

/-- A region's row of image 5 in the scratch. -/
theorem row5 (x0 : FVec Ideal S8x36x1024 .f32) (q : Fin 36) (d : Fin 1024) :
    k1_pay9 (F := Ideal) (View.ld x0 (Rect.unit (s := S8x36x1024) ![5, 0, 0] ![1, 36, 1024] inb_S8x36x1024_S1x36x1024_5_0_0)) (ix2 q d)
      = x0 (ix3 5 q d) := by
  pointwise [k1_pay9]
/-- The products of the rows of image 5. -/
theorem gram5 (v : FVec Ideal S320x1024 .bf16) (p q : Fin 40) :
    k1_pay19 (F := Ideal) v (ix2 p q) = ∑ d : Fin 1024, v (ix2 (⟨200 + p.val, by omega⟩ : Fin 320) d) * v (ix2 (⟨200 + q.val, by omega⟩ : Fin 320) d) := by
  pointwise [k1_pay19]

/-- A region's row of image 6 in the scratch. -/
theorem row6 (x0 : FVec Ideal S8x36x1024 .f32) (q : Fin 36) (d : Fin 1024) :
    k1_pay10 (F := Ideal) (View.ld x0 (Rect.unit (s := S8x36x1024) ![6, 0, 0] ![1, 36, 1024] inb_S8x36x1024_S1x36x1024_6_0_0)) (ix2 q d)
      = x0 (ix3 6 q d) := by
  pointwise [k1_pay10]
/-- The products of the rows of image 6. -/
theorem gram6 (v : FVec Ideal S320x1024 .bf16) (p q : Fin 40) :
    k1_pay20 (F := Ideal) v (ix2 p q) = ∑ d : Fin 1024, v (ix2 (⟨240 + p.val, by omega⟩ : Fin 320) d) * v (ix2 (⟨240 + q.val, by omega⟩ : Fin 320) d) := by
  pointwise [k1_pay20]

/-- A region's row of image 7 in the scratch. -/
theorem row7 (x0 : FVec Ideal S8x36x1024 .f32) (q : Fin 36) (d : Fin 1024) :
    k1_pay11 (F := Ideal) (View.ld x0 (Rect.unit (s := S8x36x1024) ![7, 0, 0] ![1, 36, 1024] inb_S8x36x1024_S1x36x1024_7_0_0)) (ix2 q d)
      = x0 (ix3 7 q d) := by
  pointwise [k1_pay11]
/-- The products of the rows of image 7. -/
theorem gram7 (v : FVec Ideal S320x1024 .bf16) (p q : Fin 40) :
    k1_pay21 (F := Ideal) v (ix2 p q) = ∑ d : Fin 1024, v (ix2 (⟨280 + p.val, by omega⟩ : Fin 320) d) * v (ix2 (⟨280 + q.val, by omega⟩ : Fin 320) d) := by
  pointwise [k1_pay21]

/-- Row `r` of the padded regions: image `r / 40`'s region `r % 40`, zero in the four padding rows. -/
theorem impOf_at (x0 : FVec Ideal S8x36x1024 .f32) (r : Fin 320) (d : Fin 1024) :
    impOf (F := Ideal) x0 (ix2 r d) = if h : r.val % 40 < 36 then x0 (ix3 (⟨r.val / 40, by omega⟩ : Fin 8) (⟨r.val % 40, h⟩ : Fin 36) d) else (0 : EReal) := by
  unfold impOf impPieces
  simp only [List.cons_append, List.nil_append, canon_band]
  have hz : k1_pay2 (F := Ideal) (ix2 r d) = 0 := by pointwise [k1_pay2]
  rw [canon_rows, hz]
  simp only [row0, row1, row2, row3, row4, row5, row6, row7]
  have hr := r.isLt
  by_cases h : r.val % 40 < 36
  · rw [dif_pos h]
    obtain hk | hk | hk | hk | hk | hk | hk | hk : r.val / 40 = 0 ∨ r.val / 40 = 1 ∨ r.val / 40 = 2 ∨ r.val / 40 = 3
        ∨ r.val / 40 = 4 ∨ r.val / 40 = 5 ∨ r.val / 40 = 6 ∨ r.val / 40 = 7 := by omega
    · rw [dif_neg (by omega), dif_neg (by omega), dif_neg (by omega), dif_neg (by omega), dif_neg (by omega), dif_neg (by omega), dif_neg (by omega), dif_pos (by omega)]
      exact congrArg x0 (by
        rw [show (⟨r.val / 40, by omega⟩ : Fin 8) = 0 from Fin.ext hk, show (⟨r.val - 0, by omega⟩ : Fin 36) = ⟨r.val % 40, h⟩ from Fin.ext (by show r.val - 0 = r.val % 40; omega)])
    · rw [dif_neg (by omega), dif_neg (by omega), dif_neg (by omega), dif_neg (by omega), dif_neg (by omega), dif_neg (by omega), dif_pos (by omega)]
      exact congrArg x0 (by
        rw [show (⟨r.val / 40, by omega⟩ : Fin 8) = 1 from Fin.ext hk, show (⟨r.val - 40, by omega⟩ : Fin 36) = ⟨r.val % 40, h⟩ from Fin.ext (by show r.val - 40 = r.val % 40; omega)])
    · rw [dif_neg (by omega), dif_neg (by omega), dif_neg (by omega), dif_neg (by omega), dif_neg (by omega), dif_pos (by omega)]
      exact congrArg x0 (by
        rw [show (⟨r.val / 40, by omega⟩ : Fin 8) = 2 from Fin.ext hk, show (⟨r.val - 80, by omega⟩ : Fin 36) = ⟨r.val % 40, h⟩ from Fin.ext (by show r.val - 80 = r.val % 40; omega)])
    · rw [dif_neg (by omega), dif_neg (by omega), dif_neg (by omega), dif_neg (by omega), dif_pos (by omega)]
      exact congrArg x0 (by
        rw [show (⟨r.val / 40, by omega⟩ : Fin 8) = 3 from Fin.ext hk, show (⟨r.val - 120, by omega⟩ : Fin 36) = ⟨r.val % 40, h⟩ from Fin.ext (by show r.val - 120 = r.val % 40; omega)])
    · rw [dif_neg (by omega), dif_neg (by omega), dif_neg (by omega), dif_pos (by omega)]
      exact congrArg x0 (by
        rw [show (⟨r.val / 40, by omega⟩ : Fin 8) = 4 from Fin.ext hk, show (⟨r.val - 160, by omega⟩ : Fin 36) = ⟨r.val % 40, h⟩ from Fin.ext (by show r.val - 160 = r.val % 40; omega)])
    · rw [dif_neg (by omega), dif_neg (by omega), dif_pos (by omega)]
      exact congrArg x0 (by
        rw [show (⟨r.val / 40, by omega⟩ : Fin 8) = 5 from Fin.ext hk, show (⟨r.val - 200, by omega⟩ : Fin 36) = ⟨r.val % 40, h⟩ from Fin.ext (by show r.val - 200 = r.val % 40; omega)])
    · rw [dif_neg (by omega), dif_pos (by omega)]
      exact congrArg x0 (by
        rw [show (⟨r.val / 40, by omega⟩ : Fin 8) = 6 from Fin.ext hk, show (⟨r.val - 240, by omega⟩ : Fin 36) = ⟨r.val % 40, h⟩ from Fin.ext (by show r.val - 240 = r.val % 40; omega)])
    · rw [dif_pos (by omega)]
      exact congrArg x0 (by
        rw [show (⟨r.val / 40, by omega⟩ : Fin 8) = 7 from Fin.ext hk, show (⟨r.val - 280, by omega⟩ : Fin 36) = ⟨r.val % 40, h⟩ from Fin.ext (by show r.val - 280 = r.val % 40; omega)])
  · rw [dif_neg h]
    rw [dif_neg (by omega), dif_neg (by omega), dif_neg (by omega), dif_neg (by omega), dif_neg (by omega), dif_neg (by omega),
      dif_neg (by omega), dif_neg (by omega)]

/-- The Gram scratch: the product of two rows of one image, zero between two images. -/
theorem gramOf_at (v : FVec Ideal S320x1024 .bf16) (r q : Fin 320) :
    gramOf (F := Ideal) v (ix2 r q) = if r.val / 40 = q.val / 40 then ∑ d : Fin 1024, v (ix2 r d) * v (ix2 q d) else (0 : EReal) := by
  unfold gramOf gramPieces
  simp only [List.cons_append, List.nil_append, canon_block]
  have hz : k1_pay3 (F := Ideal) (ix2 r q) = 0 := by pointwise [k1_pay3]
  rw [canon_square, hz]
  simp only [gram0, gram1, gram2, gram3, gram4, gram5, gram6, gram7]
  have hr := r.isLt
  have hq := q.isLt
  by_cases h : r.val / 40 = q.val / 40
  · rw [if_pos h]
    obtain hk | hk | hk | hk | hk | hk | hk | hk : r.val / 40 = 0 ∨ r.val / 40 = 1 ∨ r.val / 40 = 2 ∨ r.val / 40 = 3
        ∨ r.val / 40 = 4 ∨ r.val / 40 = 5 ∨ r.val / 40 = 6 ∨ r.val / 40 = 7 := by omega
    · rw [dif_neg (by omega), dif_neg (by omega), dif_neg (by omega), dif_neg (by omega), dif_neg (by omega), dif_neg (by omega), dif_neg (by omega), dif_pos (by omega)]
      rw [show (⟨0 + (r.val - 0), by omega⟩ : Fin 320) = r from Fin.ext (by show 0 + (r.val - 0) = r.val; omega),
        show (⟨0 + (q.val - 0), by omega⟩ : Fin 320) = q from Fin.ext (by show 0 + (q.val - 0) = q.val; omega)]
    · rw [dif_neg (by omega), dif_neg (by omega), dif_neg (by omega), dif_neg (by omega), dif_neg (by omega), dif_neg (by omega), dif_pos (by omega)]
      rw [show (⟨40 + (r.val - 40), by omega⟩ : Fin 320) = r from Fin.ext (by show 40 + (r.val - 40) = r.val; omega),
        show (⟨40 + (q.val - 40), by omega⟩ : Fin 320) = q from Fin.ext (by show 40 + (q.val - 40) = q.val; omega)]
    · rw [dif_neg (by omega), dif_neg (by omega), dif_neg (by omega), dif_neg (by omega), dif_neg (by omega), dif_pos (by omega)]
      rw [show (⟨80 + (r.val - 80), by omega⟩ : Fin 320) = r from Fin.ext (by show 80 + (r.val - 80) = r.val; omega),
        show (⟨80 + (q.val - 80), by omega⟩ : Fin 320) = q from Fin.ext (by show 80 + (q.val - 80) = q.val; omega)]
    · rw [dif_neg (by omega), dif_neg (by omega), dif_neg (by omega), dif_neg (by omega), dif_pos (by omega)]
      rw [show (⟨120 + (r.val - 120), by omega⟩ : Fin 320) = r from Fin.ext (by show 120 + (r.val - 120) = r.val; omega),
        show (⟨120 + (q.val - 120), by omega⟩ : Fin 320) = q from Fin.ext (by show 120 + (q.val - 120) = q.val; omega)]
    · rw [dif_neg (by omega), dif_neg (by omega), dif_neg (by omega), dif_pos (by omega)]
      rw [show (⟨160 + (r.val - 160), by omega⟩ : Fin 320) = r from Fin.ext (by show 160 + (r.val - 160) = r.val; omega),
        show (⟨160 + (q.val - 160), by omega⟩ : Fin 320) = q from Fin.ext (by show 160 + (q.val - 160) = q.val; omega)]
    · rw [dif_neg (by omega), dif_neg (by omega), dif_pos (by omega)]
      rw [show (⟨200 + (r.val - 200), by omega⟩ : Fin 320) = r from Fin.ext (by show 200 + (r.val - 200) = r.val; omega),
        show (⟨200 + (q.val - 200), by omega⟩ : Fin 320) = q from Fin.ext (by show 200 + (q.val - 200) = q.val; omega)]
    · rw [dif_neg (by omega), dif_pos (by omega)]
      rw [show (⟨240 + (r.val - 240), by omega⟩ : Fin 320) = r from Fin.ext (by show 240 + (r.val - 240) = r.val; omega),
        show (⟨240 + (q.val - 240), by omega⟩ : Fin 320) = q from Fin.ext (by show 240 + (q.val - 240) = q.val; omega)]
    · rw [dif_pos (by omega)]
      rw [show (⟨280 + (r.val - 280), by omega⟩ : Fin 320) = r from Fin.ext (by show 280 + (r.val - 280) = r.val; omega),
        show (⟨280 + (q.val - 280), by omega⟩ : Fin 320) = q from Fin.ext (by show 280 + (q.val - 280) = q.val; omega)]
  · rw [if_neg h]
    rw [dif_neg (by omega), dif_neg (by omega), dif_neg (by omega), dif_neg (by omega), dif_neg (by omega), dif_neg (by omega),
      dif_neg (by omega), dif_neg (by omega)]

end Cert.KernelIdeal.Whole

end
-- ==== Proof.Ideal.Pair.lean ====
module

public import Idealize.ShloMosaic.PureOps.Ideal
public import Idealize.ShloMosaic.Lib.Pointwise

@[expose] public section

noncomputable section

namespace Cert.Pair

/-! # One image against one caption, over the reals

`x r d` the image's regions, `y w d` the caption's words, `k w` the word's mask, `a` the slope of the leaky rectifier, `ε` the
guard of the divisions. First what the kernel computes, then what the reference computes, then that each word's contribution
to the score is the same. -/

variable (a ε : ℝ) (x : Fin 36 → Fin 1024 → ℝ) (y : Fin 50 → Fin 1024 → ℝ) (k : Fin 50 → ℝ)

/-- The leaky rectifier. -/
def act (t : ℝ) : ℝ := if 0 ≤ t then t else a * t
/-- Products of regions and unmasked words. -/
def raw (r : Fin 36) (w : Fin 50) : ℝ := ∑ d, x r d * y w d
/-- Rectified and masked. -/
def lk (r : Fin 36) (w : Fin 50) : ℝ := act a (raw x y r w) * k w
/-- Nine over a region's guarded norm across the caption's words. -/
def scale (r : Fin 36) : ℝ := 9 / (Real.sqrt (∑ w, lk a x y k r w * lk a x y k r w) + ε)
/-- The unnormalized attention weight. -/
def wt (r : Fin 36) (w : Fin 50) : ℝ := Real.exp (lk a x y k r w * scale a ε x y k r)
/-- Their sum over the regions. -/
def wsum (w : Fin 50) : ℝ := ∑ r, wt a ε x y k r w
/-- The word against the unnormalized attended image. -/
def dot12 (w : Fin 50) : ℝ := ∑ r, wt a ε x y k r w * raw x y r w
/-- The squared length of the unnormalized attended image, through the regions' Gram matrix. -/
def sq2 (w : Fin 50) : ℝ := ∑ r, wt a ε x y k r w * ∑ q, (∑ d, x r d * x q d) * wt a ε x y k q w
/-- The length of a word. -/
def len (w : Fin 50) : ℝ := Real.sqrt (∑ d, y w d * y w d)
/-- The kernel's similarity of a word. -/
def sim (w : Fin 50) : ℝ :=
  dot12 a ε x y k w / max (len y w * Real.sqrt (sq2 a ε x y k w)) (ε * wsum a ε x y k w)
/-- The kernel's contribution of a word. -/
def contrib (w : Fin 50) : ℝ := Real.exp (sim a ε x y k w * 6) * k w

/-- The masked word. -/
def cap (w : Fin 50) (d : Fin 1024) : ℝ := y w d * k w
/-- The reference's rectified products. -/
def rlk (w : Fin 50) (r : Fin 36) : ℝ := act a (∑ d, cap y k w d * x r d)
/-- The reference's logits. -/
def logit (w : Fin 50) (r : Fin 36) : ℝ :=
  rlk a x y k w r / (Real.sqrt (∑ v, rlk a x y k v r * rlk a x y k v r) + ε) * 9
/-- The reference's attention, its exponents shifted by any `s`. -/
def attn (s : Fin 50 → ℝ) (w : Fin 50) (r : Fin 36) : ℝ :=
  Real.exp (logit a ε x y k w r - s w) / ∑ q, Real.exp (logit a ε x y k w q - s w)
/-- The attended image. -/
def wei (s : Fin 50 → ℝ) (w : Fin 50) (d : Fin 1024) : ℝ := ∑ r, attn a ε x y k s w r * x r d
/-- The reference's similarity of a word. -/
def rsim (s : Fin 50 → ℝ) (w : Fin 50) : ℝ :=
  (∑ d, cap y k w d * wei a ε x y k s w d)
    / max (Real.sqrt (∑ d, cap y k w d * cap y k w d) * Real.sqrt (∑ d, wei a ε x y k s w d * wei a ε x y k s w d)) ε
/-- The reference's contribution of a word. -/
def rcontrib (s : Fin 50 → ℝ) (w : Fin 50) : ℝ := Real.exp (rsim a ε x y k s w * 6) * k w

variable {a ε x y k}

/-- The rectified products agree, -/
theorem rlk_eq (hk : ∀ w, k w = 0 ∨ k w = 1) (w : Fin 50) (r : Fin 36) : rlk a x y k w r = lk a x y k r w := by
  have h : ∑ d, cap y k w d * x r d = raw x y r w * k w := by
    unfold cap raw; rw [Finset.sum_mul]; exact Finset.sum_congr rfl fun d _ => by ring
  unfold rlk lk; rw [h]
  rcases hk w with h0 | h1
  · rw [h0]; simp [act]
  · rw [h1]; simp

/-- so do the logits, -/
theorem logit_eq (hk : ∀ w, k w = 0 ∨ k w = 1) (w : Fin 50) (r : Fin 36) :
    logit a ε x y k w r = lk a x y k r w * scale a ε x y k r := by
  unfold logit scale; simp only [rlk_eq hk]; ring

/-- The weights' sum is positive. -/
theorem wsum_pos (w : Fin 50) : 0 < wsum a ε x y k w :=
  Finset.sum_pos (fun _ _ => Real.exp_pos _) Finset.univ_nonempty

/-- and the attention is the weight over the sum, whatever the shift. -/
theorem attn_eq (hk : ∀ w, k w = 0 ∨ k w = 1) (s : Fin 50 → ℝ) (w : Fin 50) (r : Fin 36) :
    attn a ε x y k s w r = wt a ε x y k r w / wsum a ε x y k w := by
  unfold attn; simp only [logit_eq hk, Real.exp_sub]
  rw [← Finset.sum_div, div_div_div_cancel_right₀ (Real.exp_ne_zero _)]
  rfl

/-- The squared length through the Gram matrix is the length of the weighted sum of regions, -/
theorem sq2_eq (w : Fin 50) : sq2 a ε x y k w = ∑ d, (∑ r, wt a ε x y k r w * x r d) * (∑ r, wt a ε x y k r w * x r d) := by
  unfold sq2
  simp only [Finset.sum_mul_sum]
  rw [Finset.sum_comm]
  refine Finset.sum_congr rfl fun r _ => ?_
  rw [Finset.sum_comm, Finset.mul_sum]
  refine Finset.sum_congr rfl fun q _ => ?_
  rw [Finset.sum_mul, Finset.mul_sum]
  exact Finset.sum_congr rfl fun d _ => by ring

/-- so it is nonnegative. -/
theorem sq2_nonneg (w : Fin 50) : 0 ≤ sq2 a ε x y k w := by
  rw [sq2_eq]; exact Finset.sum_nonneg fun d _ => mul_self_nonneg _

/-- The attended image is the weighted sum over the weights' sum. -/
theorem wei_eq (hk : ∀ w, k w = 0 ∨ k w = 1) (s : Fin 50 → ℝ) (w : Fin 50) (d : Fin 1024) :
    wei a ε x y k s w d = (∑ r, wt a ε x y k r w * x r d) / wsum a ε x y k w := by
  unfold wei; simp only [attn_eq hk]; rw [Finset.sum_div]
  exact Finset.sum_congr rfl fun r _ => by ring

/-- On an unmasked word the two similarities agree: the normalization cancels. -/
theorem sim_eq (hk : ∀ w, k w = 0 ∨ k w = 1) (s : Fin 50 → ℝ) (w : Fin 50) (h1 : k w = 1) :
    rsim a ε x y k s w = sim a ε x y k w := by
  have hS := wsum_pos (a := a) (ε := ε) (x := x) (y := y) (k := k) w
  have hc : ∀ d, cap y k w d = y w d := fun d => by unfold cap; rw [h1, mul_one]
  unfold rsim sim
  simp only [hc, wei_eq hk]
  have e1 : ∑ d, y w d * ((∑ r, wt a ε x y k r w * x r d) / wsum a ε x y k w) = dot12 a ε x y k w / wsum a ε x y k w := by
    unfold dot12 raw
    rw [Finset.sum_div]
    simp only [Finset.mul_sum, Finset.sum_div]
    rw [Finset.sum_comm]
    exact Finset.sum_congr rfl fun r _ => Finset.sum_congr rfl fun d _ => by ring
  have e2 : ∑ d, ((∑ r, wt a ε x y k r w * x r d) / wsum a ε x y k w) * ((∑ r, wt a ε x y k r w * x r d) / wsum a ε x y k w)
      = sq2 a ε x y k w / (wsum a ε x y k w) ^ 2 := by
    rw [sq2_eq, Finset.sum_div]
    exact Finset.sum_congr rfl fun d _ => by ring
  rw [e1, e2, Real.sqrt_div (sq2_nonneg w), Real.sqrt_sq hS.le]
  have e3 : max (len y w * (Real.sqrt (sq2 a ε x y k w) / wsum a ε x y k w)) ε
      = max (len y w * Real.sqrt (sq2 a ε x y k w)) (ε * wsum a ε x y k w) / wsum a ε x y k w := by
    rw [← max_div_div_right hS.le]
    congr 1
    · ring
    · rw [mul_div_assoc, div_self hS.ne', mul_one]
  unfold len at e3 ⊢
  rw [e3, div_div_div_cancel_right₀ hS.ne']

/-- A word contributes the same to both scores. -/
theorem contrib_eq (hk : ∀ w, k w = 0 ∨ k w = 1) (s : Fin 50 → ℝ) (w : Fin 50) :
    rcontrib a ε x y k s w = contrib a ε x y k w := by
  unfold rcontrib contrib
  rcases hk w with h0 | h1
  · rw [h0, mul_zero, mul_zero]
  · rw [sim_eq hk s w h1]

end Cert.Pair

end
-- ==== Proof.Ideal.Consts.lean ====
module

public import Idealize.ShloMosaic.PureOps.Ideal
public import Idealize.ShloMosaic.Lib.Pointwise
public import proofs.«01_k».proof.Proof.Ideal.Pair

@[expose] public section

noncomputable section

namespace Cert.Pair

open Idealize.ShloMosaic

/-! # The programs' constants, and extended-real operations on real operands -/

/-- The leaky rectifier's slope: the 32-bit number nearest `0.1`. -/
def slope : ℝ := 13421773 / 134217728
/-- The guard of the divisions: the 32-bit number nearest `1e-8`. -/
def guard : ℝ := 11258999 / 1125899906842624

/-- The guard is positive. -/
theorem guard_pos : 0 < guard := by unfold guard; norm_num

/-- The slope's bit pattern. -/
theorem bits_slope : Ideal.ofBits .f32 0x3DCCCCCD#32 = ((slope : ℝ) : EReal) := by
  simp [Ideal.ofBits, Ideal.ieee, -EReal.coe_mul]; unfold slope; norm_num
/-- The guard's bit pattern. -/
theorem bits_guard : Ideal.ofBits .f32 0x322BCC77#32 = ((guard : ℝ) : EReal) := by
  simp [Ideal.ofBits, Ideal.ieee, -EReal.coe_mul]; unfold guard; norm_num
/-- Nine's bit pattern. -/
theorem bits_nine : Ideal.ofBits .f32 0x41100000#32 = ((9 : ℝ) : EReal) := by
  simp [Ideal.ofBits, Ideal.ieee, -EReal.coe_mul]; norm_num
/-- Six's bit pattern. -/
theorem bits_six : Ideal.ofBits .f32 0x40C00000#32 = ((6 : ℝ) : EReal) := by
  simp [Ideal.ofBits, Ideal.ieee, -EReal.coe_mul]; norm_num
/-- Minus infinity's bit pattern. -/
theorem bits_bot : Ideal.ofBits .f32 0xFF800000#32 = ⊥ := by
  simp [Ideal.ofBits, Ideal.ieee]

/-- A finite sum of reals is one extended real. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Division of reals, the divisor nonzero. -/
theorem coe_div {y : ℝ} (h : y ≠ 0) (x : ℝ) : Ideal.div (x : EReal) (y : EReal) = ((x / y : ℝ) : EReal) := by
  rw [Ideal.div_coe h, ← EReal.coe_mul, mul_one_div]

/-- Square root of a nonnegative real. -/
theorem coe_sqrt {x : ℝ} (h : 0 ≤ x) : Ideal.sqrt (x : EReal) = ((Real.sqrt x : ℝ) : EReal) := by
  rw [Ideal.sqrt_coe, if_neg (not_lt.2 h)]

/-- Maximum of reals. -/
theorem coe_max (x y : ℝ) : max (x : EReal) (y : EReal) = ((max x y : ℝ) : EReal) :=
  (EReal.coe_strictMono.monotone.map_max).symm

/-- The rectifier on a real. -/
theorem coe_act (t : ℝ) : (if (0 : EReal) ≤ (t : EReal) then (t : EReal) else (slope : EReal) * (t : EReal)) = ((act slope t : ℝ) : EReal) := by
  unfold act
  by_cases h : 0 ≤ t
  · rw [if_pos h, if_pos (EReal.coe_nonneg.2 h)]
  · rw [if_neg h, if_neg fun h' => h (EReal.coe_nonneg.1 h'), EReal.coe_mul]

end Cert.Pair

end
-- ==== Proof.Ideal.BlockValue.lean ====
module

public import proofs.«01_k».proof.Proof.Ideal.Scratch
public import proofs.«01_k».proof.Proof.Ideal.Consts
public import Idealize.ShloMosaic.Lib.Pointwise
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Pair

/-! # One block of scores, read at an index

`im b r d` the eight images of the block, `y l d` the 3200 words of 64 captions, `k l` the words' masks, all real. -/

/-- The word that says whether a row of the padded regions is a region. -/
def padWord (n : ℕ) : BitVec 1 := IntOp.cmpi .slt (Scalar.select (IntOp.andi (IntOp.xori (IntOp.cmpi .slt (IntOp.remsi .vector (BitVec.ofNat 32 n) (Scalar.select (Scalar.cmpi .eq 40#32 0#32) 1#32 40#32)) 0#32) (Scalar.cmpi .slt 40#32 0#32)) (IntOp.cmpi .ne (IntOp.remsi .vector (BitVec.ofNat 32 n) (Scalar.select (Scalar.cmpi .eq 40#32 0#32) 1#32 40#32)) 0#32)) (IntOp.addi (IntOp.remsi .vector (BitVec.ofNat 32 n) (Scalar.select (Scalar.cmpi .eq 40#32 0#32) 1#32 40#32)) 40#32) (IntOp.remsi .vector (BitVec.ofNat 32 n) (Scalar.select (Scalar.cmpi .eq 40#32 0#32) 1#32 40#32))) 36#32

/-- The word that tells padding rows apart, computed for a row number. -/
theorem fold_word (n : ℕ) : (IntOp.cmpi .slt (Scalar.select (IntOp.andi (IntOp.xori (IntOp.cmpi .slt (IntOp.remsi .vector (BitVec.ofNat 32 n) (Scalar.select (Scalar.cmpi .eq 40#32 0#32) 1#32 40#32)) 0#32) (Scalar.cmpi .slt 40#32 0#32)) (IntOp.cmpi .ne (IntOp.remsi .vector (BitVec.ofNat 32 n) (Scalar.select (Scalar.cmpi .eq 40#32 0#32) 1#32 40#32)) 0#32)) (IntOp.addi (IntOp.remsi .vector (BitVec.ofNat 32 n) (Scalar.select (Scalar.cmpi .eq 40#32 0#32) 1#32 40#32)) 40#32) (IntOp.remsi .vector (BitVec.ofNat 32 n) (Scalar.select (Scalar.cmpi .eq 40#32 0#32) 1#32 40#32))) 36#32) = padWord n := rfl

/-- It is one exactly on the first 36 of every 40 rows. -/
theorem padWord_at : ∀ n : Fin 320, padWord n.val = if n.val % 40 < 36 then 1#1 else 0#1 := by decide +kernel

/-- An attention weight: the exponential of the logit, zero in the padding rows. -/
theorem weight_at (n : ℕ) (hn : n < 320) (z : ℝ) :
    Ideal.exp (Scalar.select (padWord n) ((z : ℝ) : EReal) (Named.named (F := Ideal) (φ := .f32) κ "mask" 4048155338#32 : EReal))
      = ((if n % 40 < 36 then Real.exp z else 0 : ℝ) : EReal) := by
  rw [padWord_at ⟨n, hn⟩]
  by_cases h : n % 40 < 36
  · simp [h, Scalar.select, Ideal.exp_coe]
  · rw [show (Named.named (F := Ideal) (φ := .f32) κ "mask" 4048155338#32 : EReal) = ⊥ from IdealRules.named_const.ideal_named_scalar _ _ _ _ rfl]
    simp [h, Scalar.select, Ideal.exp_bot]

/-- Word `w` of caption `c`. -/
def wd (c : Fin 64) (w : Fin 50) : Fin 3200 := ⟨c.val * 50 + w.val, by omega⟩
/-- A word's caption. -/
def cp (l : Fin 3200) : Fin 64 := ⟨l.val / 50, by omega⟩
/-- A word's place in its caption. -/
def ps (l : Fin 3200) : Fin 50 := ⟨l.val % 50, by omega⟩

/-- A flat word position is its caption and its place in it, -/
theorem wd_cp_ps (l : Fin 3200) : wd (cp l) (ps l) = l := Fin.ext (by show l.val / 50 * 50 + l.val % 50 = l.val; omega)
/-- whose caption -/
theorem cp_wd (c : Fin 64) (w : Fin 50) : cp (wd c w) = c := Fin.ext (by show (c.val * 50 + w.val) / 50 = c.val; omega)
/-- and place are read back. -/
theorem ps_wd (c : Fin 64) (w : Fin 50) : ps (wd c w) = w := Fin.ext (by show (c.val * 50 + w.val) % 50 = w.val; omega)

/-- Summing against a caption's indicator leaves the caption's words. -/
theorem sum_caption (f : Fin 3200 → ℝ) (c : Fin 64) :
    ∑ l : Fin 3200, f l * (if cp l = c then 1 else 0) = ∑ w : Fin 50, f (wd c w) := by
  rw [Fin.sum_univ_tiles 64 50 rfl (fun l : Fin 3200 => f l * (if cp l = c then (1 : ℝ) else 0))]
  rw [Finset.sum_eq_single c]
  · refine Finset.sum_congr rfl fun w _ => ?_
    show f (wd c w) * (if cp (wd c w) = c then (1 : ℝ) else 0) = _
    rw [cp_wd, if_pos rfl, mul_one]
  · intro j _ hj
    refine Finset.sum_eq_zero fun w _ => ?_
    show f (wd j w) * (if cp (wd j w) = c then (1 : ℝ) else 0) = 0
    rw [cp_wd, if_neg hj, mul_zero]
  · intro h; exact absurd (Finset.mem_univ c) h

/-- Row `x` of image `b` among the padded regions. -/
def row (b : Fin 8) (x : Fin 40) : Fin 320 := ⟨b.val * 40 + x.val, by omega⟩

/-- A sum over an image's forty rows whose last four vanish. -/
theorem sum_regions (f : Fin 40 → ℝ) (h : ∀ x : Fin 40, ¬ x.val < 36 → f x = 0) :
    ∑ x : Fin 40, f x = ∑ r : Fin 36, f ⟨r.val, by omega⟩ := by
  rw [show (∑ x : Fin 40, f x) = ∑ r : Fin 36, f (Fin.castAdd 4 r) + ∑ r : Fin 4, f (Fin.natAdd 36 r) from Fin.sum_univ_add (a := 36) (b := 4) f]
  rw [Finset.sum_eq_zero (s := (Finset.univ : Finset (Fin 4))) (fun x _ => h _ (by show ¬ 36 + x.val < 36; omega)), add_zero]
  rfl

/-- A sum over all the rows, against something that vanishes off one image. -/
theorem sum_image (b : Fin 8) (f : Fin 320 → ℝ) (h : ∀ n : Fin 320, n.val / 40 ≠ b.val → f n = 0) :
    ∑ n : Fin 320, f n = ∑ x : Fin 40, f (row b x) := by
  rw [Fin.sum_univ_tiles 8 40 rfl f]
  rw [Finset.sum_eq_single b]
  · rfl
  · intro j _ hj
    refine Finset.sum_eq_zero fun x _ => h _ ?_
    show (j.val * 40 + x.val) / 40 ≠ b.val
    intro e; exact hj (Fin.ext (by omega))
  · intro h; exact absurd (Finset.mem_univ b) h

section Block

variable (im : Fin 8 → Fin 36 → Fin 1024 → ℝ) (y : Fin 3200 → Fin 1024 → ℝ) (k : Fin 3200 → ℝ)

/-- The padded regions. -/
def padded (n : Fin 320) (d : Fin 1024) : ℝ :=
  if h : n.val % 40 < 36 then im (⟨n.val / 40, by omega⟩ : Fin 8) (⟨n.val % 40, h⟩ : Fin 36) d else 0
/-- A padded region against a word. -/
def rawP (n : Fin 320) (l : Fin 3200) : ℝ := ∑ d, padded im n d * y l d
/-- Rectified and masked. -/
def lkP (n : Fin 320) (l : Fin 3200) : ℝ := act slope (rawP im y n l) * k l
/-- Nine over the guarded norm of a region across a caption. -/
def scaleP (n : Fin 320) (c : Fin 64) : ℝ := 9 / (Real.sqrt (∑ w, lkP im y k n (wd c w) * lkP im y k n (wd c w)) + guard)
/-- The attention weight with the padding rows' zeros. -/
def wtP (n : Fin 320) (l : Fin 3200) : ℝ := if n.val % 40 < 36 then Real.exp (lkP im y k n l * scaleP im y k n (cp l)) else 0
/-- The Gram matrix within images. -/
def gramP (n q : Fin 320) : ℝ := if n.val / 40 = q.val / 40 then ∑ d, padded im n d * padded im q d else 0

/-- The padded images hold real numbers: the images', and zero on padding. -/
theorem imp_real (x0 : FVec Ideal S8x36x1024 .f32) (h0 : ∀ b r d, x0 (ix3 b r d) = ((im b r d : ℝ) : EReal)) (n : Fin 320) (d : Fin 1024) :
    impOf (F := Ideal) x0 (ix2 n d) = ((padded im n d : ℝ) : EReal) := by
  rw [impOf_at]; unfold padded
  by_cases h : n.val % 40 < 36
  · rw [dif_pos h, dif_pos h, h0]
  · rw [dif_neg h, dif_neg h, EReal.coe_zero]

/-- Their Gram matrix holds the products of their rows. -/
theorem gram_real (v : FVec Ideal S320x1024 .bf16) (hv : ∀ n d, v (ix2 n d) = ((padded im n d : ℝ) : EReal)) (n q : Fin 320) :
    gramOf (F := Ideal) v (ix2 n q) = ((gramP im n q : ℝ) : EReal) := by
  rw [gramOf_at]; unfold gramP
  by_cases h : n.val / 40 = q.val / 40
  · rw [if_pos h, if_pos h, coe_sum]
    exact Finset.sum_congr rfl fun d _ => by rw [hv, hv, EReal.coe_mul]
  · rw [if_neg h, if_neg h, EReal.coe_zero]

/-- The products of regions and words are real. -/
theorem raw_real (v : FVec Ideal S320x1024 .bf16) (hv : ∀ n d, v (ix2 n d) = ((padded im n d : ℝ) : EReal))
    (x1 : FVec Ideal S1024x3200 .bf16) (h1 : ∀ d l, x1 (ix2 d l) = ((y l d : ℝ) : EReal)) (n : Fin 320) (l : Fin 3200) :
    k1_pay13 (F := Ideal) v x1 (ix2 n l) = ((rawP im y n l : ℝ) : EReal) := by
  pointwise [k1_pay13]
  unfold rawP
  rw [coe_sum]
  exact Finset.sum_congr rfl fun d _ => by rw [hv, h1, EReal.coe_mul]

/-- The logits. -/
theorem logit_real (m : FVec Ideal S1x3200 .f32) (hm : ∀ l, m (ix2 0 l) = ((k l : ℝ) : EReal))
    (R : FVec Ideal S320x3200 .f32) (hR : ∀ n l, R (ix2 n l) = ((rawP im y n l : ℝ) : EReal))
    (E : FVec Ideal S3200x64 .f32) (hE : ∀ l c, E (ix2 l c) = (((if cp l = c then 1 else 0 : ℝ) : ℝ) : EReal))
    (ET : FVec Ideal S64x3200 .f32) (hET : ∀ c l, ET (ix2 c l) = (((if cp l = c then 1 else 0 : ℝ) : ℝ) : EReal)) (n : Fin 320) (l : Fin 3200) :
    k1_pay22 (F := Ideal) m R E ET (ix2 n l) = ((lkP im y k n l * scaleP im y k n (cp l) : ℝ) : EReal) := by
  pointwise [k1_pay22]
  simp only [hR, hm, hE, hET]
  rw [bits_slope, bits_guard, bits_nine]
  simp only [coe_act]
  simp only [← EReal.coe_mul, ← coe_sum]
  have hs : ∀ c : Fin 64, ∑ l : Fin 3200, (act slope (rawP im y n l) * k l) * (act slope (rawP im y n l) * k l) * (if cp l = c then (1 : ℝ) else 0)
      = ∑ w : Fin 50, lkP im y k n (wd c w) * lkP im y k n (wd c w) := fun c =>
    sum_caption (fun l => (act slope (rawP im y n l) * k l) * (act slope (rawP im y n l) * k l)) c
  simp only [hs]
  have hd : ∀ c : Fin 64, Ideal.div ((9 : ℝ) : EReal) (Ideal.sqrt ((∑ w : Fin 50, lkP im y k n (wd c w) * lkP im y k n (wd c w) : ℝ) : EReal) + ((guard : ℝ) : EReal))
      = ((scaleP im y k n c : ℝ) : EReal) := fun c => by
    rw [coe_sqrt (Finset.sum_nonneg fun w _ => mul_self_nonneg _), ← EReal.coe_add,
      coe_div (ne_of_gt (add_pos_of_nonneg_of_pos (Real.sqrt_nonneg _) guard_pos))]
    rfl
  simp only [hd, ← EReal.coe_mul, ← coe_sum]
  congr 2
  rw [Finset.sum_eq_single (cp l)]
  · rw [if_pos rfl, mul_one]
  · intro c _ hc; rw [if_neg (Ne.symm hc), mul_zero]
  · intro h; exact absurd (Finset.mem_univ _) h

/-- The contributions of the words, over the padded rows. -/
theorem contrib_padded (m : FVec Ideal S1x3200 .f32) (hm : ∀ l, m (ix2 0 l) = ((k l : ℝ) : EReal))
    (R : FVec Ideal S320x3200 .f32) (hR : ∀ n l, R (ix2 n l) = ((rawP im y n l : ℝ) : EReal))
    (X : FVec Ideal S320x3200 .f32) (hX : ∀ n l, X (ix2 n l) = ((lkP im y k n l * scaleP im y k n (cp l) : ℝ) : EReal))
    (G : FVec Ideal S320x320 .f32) (hG : ∀ n q, G (ix2 n q) = ((gramP im n q : ℝ) : EReal))
    (w1 : FVec Ideal S1x3200 .f32) (len : Fin 3200 → ℝ) (hw : ∀ l, w1 (ix2 0 l) = ((len l : ℝ) : EReal))
    (b : Fin 8) (l : Fin 3200)
    (hq : 0 ≤ ∑ x : Fin 40, wtP im y k (row b x) l * ∑ q : Fin 320, gramP im (row b x) q * wtP im y k q l)
    (hp : 0 < ∑ x : Fin 40, wtP im y k (row b x) l) :
    k1_pay25 (F := Ideal) m R X 40#32 k1_pay23 k1_pay24 G w1 (ix2 b l)
      = ((Real.exp ((∑ x : Fin 40, wtP im y k (row b x) l * rawP im y (row b x) l)
          / max (len l * Real.sqrt (∑ x : Fin 40, wtP im y k (row b x) l * ∑ q : Fin 320, gramP im (row b x) q * wtP im y k q l))
              (guard * ∑ x : Fin 40, wtP im y k (row b x) l) * 6) * k l : ℝ) : EReal) := by
  pointwise [k1_pay25, k1_pay23, k1_pay24]
  simp only [fold_word]
  have e1 : ∀ x : Fin 40, Ideal.exp (Scalar.select (padWord (b.val * 40 + x.val)) (X (ix2 (⟨b.val * 40 + x.val, by omega⟩ : Fin 320) l))
      (Named.named (F := Ideal) (φ := .f32) κ "mask" 4048155338#32 : EReal)) = ((wtP im y k (row b x) l : ℝ) : EReal) := fun x => by
    rw [hX, weight_at _ (by omega)]; rfl
  have e2 : ∀ q : Fin 320, Ideal.exp (Scalar.select (padWord q.val) (X (ix2 q l))
      (Named.named (F := Ideal) (φ := .f32) κ "mask" 4048155338#32 : EReal)) = ((wtP im y k q l : ℝ) : EReal) := fun q => by
    rw [hX, weight_at _ q.isLt]; rfl
  simp only [e1, e2, hR, hm, hG, hw]
  rw [bits_guard, bits_six]
  simp only [← EReal.coe_mul, ← coe_sum]
  have hq' : 0 ≤ ∑ x : Fin 40, wtP im y k (row b x) l * ∑ q : Fin 320, gramP im (⟨b.val * 40 + x.val, by omega⟩ : Fin 320) q * wtP im y k q l := hq
  rw [coe_sqrt hq', ← EReal.coe_mul, coe_max,
    coe_div (ne_of_gt (lt_max_of_lt_right (mul_pos guard_pos hp))), ← EReal.coe_mul, Ideal.exp_coe, ← EReal.coe_mul]
  rfl

/-- A row that is no padding is its region. -/
theorem padded_region (b : Fin 8) (x : Fin 40) (h : x.val < 36) (d : Fin 1024) : padded im (row b x) d = im b ⟨x.val, h⟩ d := by
  have h1 : (b.val * 40 + x.val) / 40 = b.val := by omega
  have h2 : (b.val * 40 + x.val) % 40 = x.val := by omega
  unfold padded row
  simp only [h1, h2]
  rw [dif_pos h]

/-- A caption's words. -/
def capW (c : Fin 64) (w : Fin 50) (d : Fin 1024) : ℝ := y (wd c w) d
/-- A caption's mask. -/
def capM (c : Fin 64) (w : Fin 50) : ℝ := k (wd c w)

/-- On a region's row the products are the pair's, -/
theorem raw_region (b : Fin 8) (x : Fin 40) (h : x.val < 36) (c : Fin 64) (w : Fin 50) :
    rawP im y (row b x) (wd c w) = raw (im b) (capW y c) ⟨x.val, h⟩ w := by
  unfold rawP raw capW
  exact Finset.sum_congr rfl fun d _ => by rw [padded_region im b x h]

/-- the rectified products likewise, -/
theorem lk_region (b : Fin 8) (x : Fin 40) (h : x.val < 36) (c : Fin 64) (w : Fin 50) :
    lkP im y k (row b x) (wd c w) = lk slope (im b) (capW y c) (capM k c) ⟨x.val, h⟩ w := by
  unfold lkP lk; rw [raw_region im y b x h]; rfl

/-- and the attention weights. -/
theorem wt_region (b : Fin 8) (x : Fin 40) (h : x.val < 36) (c : Fin 64) (w : Fin 50) :
    wtP im y k (row b x) (wd c w) = wt slope guard (im b) (capW y c) (capM k c) ⟨x.val, h⟩ w := by
  have hx : (row b x).val % 40 < 36 := by show (b.val * 40 + x.val) % 40 < 36; omega
  unfold wtP wt scaleP scale
  rw [if_pos hx, cp_wd]
  simp only [lk_region im y k b x h]

/-- A padding row's weight is zero. -/
theorem wt_pad (b : Fin 8) (x : Fin 40) (h : ¬ x.val < 36) (l : Fin 3200) : wtP im y k (row b x) l = 0 := by
  unfold wtP; exact if_neg (by show ¬ (b.val * 40 + x.val) % 40 < 36; omega)

/-- So the weights' sum, -/
theorem wsum_region (b : Fin 8) (c : Fin 64) (w : Fin 50) :
    ∑ x : Fin 40, wtP im y k (row b x) (wd c w) = wsum slope guard (im b) (capW y c) (capM k c) w := by
  rw [sum_regions _ fun x h => wt_pad im y k b x h _]
  exact Finset.sum_congr rfl fun r _ => wt_region im y k b _ r.isLt c w

/-- the weighted products' sum -/
theorem dot_region (b : Fin 8) (c : Fin 64) (w : Fin 50) :
    ∑ x : Fin 40, wtP im y k (row b x) (wd c w) * rawP im y (row b x) (wd c w) = dot12 slope guard (im b) (capW y c) (capM k c) w := by
  rw [sum_regions _ fun x h => by rw [wt_pad im y k b x h, zero_mul]]
  exact Finset.sum_congr rfl fun r _ => by rw [wt_region im y k b _ r.isLt c w, raw_region im y b _ r.isLt]

/-- and the squared length are the pair's. -/
theorem sq_region (b : Fin 8) (c : Fin 64) (w : Fin 50) :
    ∑ x : Fin 40, wtP im y k (row b x) (wd c w) * ∑ q : Fin 320, gramP im (row b x) q * wtP im y k q (wd c w)
      = sq2 slope guard (im b) (capW y c) (capM k c) w := by
  rw [sum_regions _ fun x h => by rw [wt_pad im y k b x h, zero_mul]]
  refine Finset.sum_congr rfl fun r _ => ?_
  rw [wt_region im y k b _ r.isLt c w]
  congr 1
  have hrow : ∀ x : Fin 40, (row b x).val / 40 = b.val := fun x => by show (b.val * 40 + x.val) / 40 = b.val; omega
  rw [sum_image b]
  · rw [sum_regions _ fun x h => by rw [wt_pad im y k b x h, mul_zero]]
    refine Finset.sum_congr rfl fun q _ => ?_
    rw [wt_region im y k b _ q.isLt c w]
    congr 1
    unfold gramP
    rw [if_pos ((hrow _).trans (hrow _).symm)]
    exact Finset.sum_congr rfl fun d _ => by rw [padded_region im b _ r.isLt, padded_region im b _ q.isLt]
  · intro n hn
    unfold gramP
    rw [if_neg (fun e => hn (e.symm.trans (hrow _))), zero_mul]

/-- A score of the block: a sixth of the logarithm of the caption's contributions. -/
theorem scoresOf_at (x0 : FVec Ideal S8x36x1024 .f32) (h0 : ∀ b r d, x0 (ix3 b r d) = ((im b r d : ℝ) : EReal))
    (x1 : FVec Ideal S1024x3200 .bf16) (h1 : ∀ d l, x1 (ix2 d l) = ((y l d : ℝ) : EReal))
    (x2 : FVec Ideal S1x3200 .f32) (h2 : ∀ l, x2 (ix2 0 l) = ((k l : ℝ) : EReal))
    (x3 : FVec Ideal S1x3200 .f32) (h3 : ∀ l, x3 (ix2 0 l) = ((Real.sqrt (∑ d, y l d * y l d) : ℝ) : EReal))
    (x4 : FVec Ideal S3200x64 .f32) (h4 : ∀ l c, x4 (ix2 l c) = (((if cp l = c then 1 else 0 : ℝ) : ℝ) : EReal))
    (x5 : FVec Ideal S64x3200 .f32) (h5 : ∀ c l, x5 (ix2 c l) = (((if cp l = c then 1 else 0 : ℝ) : ℝ) : EReal))
    (b : Fin 8) (c : Fin 64) :
    scoresOf (F := Ideal) x0 x1 x2 x3 x4 x5 (ix4 0 0 b c)
      = Ideal.div (Ideal.log ((∑ w : Fin 50, contrib slope guard (im b) (capW y c) (capM k c) w : ℝ) : EReal)) ((6 : ℝ) : EReal) := by
  have hm : ∀ l, k1_pay12 (F := Ideal) x2 (ix2 0 l) = ((k l : ℝ) : EReal) := fun l => by
    have e : k1_pay12 (F := Ideal) x2 (ix2 0 l) = x2 (ix2 0 l) := by pointwise [k1_pay12]
    rw [e, h2]
  have hv := imp_real im x0 h0
  have hR := raw_real im y _ hv x1 h1
  have hX := logit_real im y k _ hm _ hR x4 h4 x5 h5
  have hG := gram_real im _ hv
  have hcon : ∀ c w, k1_pay25 (F := Ideal) (k1_pay12 x2) (k1_pay13 (impOf x0) x1)
      (k1_pay22 (k1_pay12 x2) (k1_pay13 (impOf x0) x1) x4 x5) 40#32 k1_pay23 k1_pay24 (gramOf (impOf x0)) x3 (ix2 b (wd c w))
        = ((contrib slope guard (im b) (capW y c) (capM k c) w : ℝ) : EReal) := fun c w => by
    rw [contrib_padded im y k _ hm _ hR _ hX _ hG x3 _ h3 b (wd c w)
      (by rw [sq_region]; exact sq2_nonneg w) (by rw [wsum_region]; exact wsum_pos w)]
    rw [sq_region, wsum_region, dot_region]
    rfl
  unfold scoresOf
  generalize k1_pay25 (F := Ideal) (k1_pay12 x2) (k1_pay13 (impOf x0) x1)
      (k1_pay22 (k1_pay12 x2) (k1_pay13 (impOf x0) x1) x4 x5) 40#32 k1_pay23 k1_pay24 (gramOf (impOf x0)) x3 = V at hcon ⊢
  have e : k1_pay1 (F := Ideal) V (k1_pay26 x4) (ix4 0 0 b c)
      = Ideal.div (Ideal.log (∑ l : Fin 3200, V (ix2 b l) * x4 (ix2 l c))) (Ideal.ofBits .f32 0x40C00000#32) := by
    pointwise [k1_pay1, k1_pay26]
  rw [e, bits_six]
  have hV : ∀ l, V (ix2 b l) = ((contrib slope guard (im b) (capW y (cp l)) (capM k (cp l)) (ps l) : ℝ) : EReal) := fun l => by
    have := hcon (cp l) (ps l); rwa [wd_cp_ps] at this
  simp only [hV, h4, ← EReal.coe_mul, ← coe_sum]
  rw [sum_caption (fun l => contrib slope guard (im b) (capW y (cp l)) (capM k (cp l)) (ps l)) c]
  simp only [cp_wd, ps_wd]

end Block

end Cert.KernelIdeal.Whole

end
-- ==== Proof.Ideal.Arrays.lean ====
module

public import proofs.«01_k».proof.Proof.Ideal.Ends
public import proofs.«01_k».proof.Proof.Ideal.Scores
public import proofs.«01_k».proof.Proof.Ideal.BlockValue
public import Idealize.ShloMosaic.Lib.Pointwise
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! # What the first call leaves in its two arrays -/

/-- The lengths of the words. -/
def norms (X : FVec Ideal S6400x1024 .f32) : FVec Ideal S1x6400 .f32 :=
  fun i => Ideal.sqrt (∑ d : Fin 1024, X (ix2 (i 1 : Fin 6400) d) * X (ix2 (i 1 : Fin 6400) d))
/-- The words, transposed. -/
def flipped (X : FVec Ideal S6400x1024 .f32) : FVec Ideal S1024x6400 .bf16 := fun i => X (ix2 (i 1 : Fin 6400) (i 0 : Fin 1024))

/-- The blocks the first call's windows name at each grid point. -/
theorem idx0 : ∀ t : Fin cfg0.N, win0_0.index t = ![t.val, 0] ∧ win0_1.index t = ![0, t.val] ∧ win0_2.index t = ![0, t.val] :=
  (by decide +kernel : ∀ t : Fin grid0.N, _)

/-- The norm the first call stores for a word. -/
theorem pay2_at (x : FVec Ideal S1280x1024 .f32) (l : Fin 1280) :
    k0_pay2 (F := Ideal) x (ix2 0 l) = Ideal.sqrt (∑ d : Fin 1024, x (ix2 l d) * x (ix2 l d)) := by
  pointwise [k0_pay2, k0_pay1]
/-- The transposed word it stores. -/
theorem pay3_at (x : FVec Ideal S1280x1024 .f32) (d : Fin 1024) (l : Fin 1280) :
    k0_pay3 (F := Ideal) x (ix2 d l) = x (ix2 l d) := by
  pointwise [k0_pay3, k0_pay1]

/-- The first call leaves the norms of all words, -/
theorem final0_1 (c : Dev nD) : (dat0 V c).arrAt 1 cfg0.N = norms (V c main_v0) := by
  refine (dat0 V c).arrAt_eq_of_covers 1 _ (by decide +kernel) fun t _ y => ?_
  blk_simp
  rw [after0_1]
  unfold norms
  idx_vars y
  rw [Subsingleton.elim y0 0]
  refine (pay2_at _ y1).trans ?_
  blk_point [iblk0, idx0 t]
/-- and all words transposed. -/
theorem final0_2 (c : Dev nD) : (dat0 V c).arrAt 2 cfg0.N = flipped (V c main_v0) := by
  refine (dat0 V c).arrAt_eq_of_covers 2 _ (by decide +kernel) fun t _ y => ?_
  blk_simp
  rw [after0_2]
  unfold flipped
  idx_vars y
  refine (pay3_at _ y0 y1).trans ?_
  blk_ext [iblk0, idx0 t]

/-! # What the last call leaves -/

/-- The last call's window names the whole array. -/
theorem idx2 : ∀ t : Fin cfg2.N, win2_0.index t = ![0, 0, 0, 0] := (by decide +kernel : ∀ t : Fin grid2.N, _)

/-- The last call's block of scores is the whole array. -/
theorem scores_block (c : Dev nD) : iblk2 V c 0 t2_0 = V c main_v21 := by
  blk_ext! [iblk2, idx2 t2_0]

/-- The last call leaves the loss of the scores. -/
theorem final2 (c : Dev nD) : (dat2 V c).arrAt 1 cfg2.N = lossOf (F := Ideal) (V c main_v21) := by
  refine (dat2 V c).arrAt_eq_of_after_last 1 t2_0 (by decide +kernel) _ fun j => ?_
  blk_simp
  rw [after2_1]
  rw [scores_block]

/-! # What the main call leaves -/

open Cert.Pair

/-- A caption's words among all the words. -/
def word (c : Fin 128) (w : Fin 50) : Fin 6400 := ⟨c.val * 50 + w.val, by omega⟩

/-- The score of image `i` against caption `c`. -/
def score (im : Fin 128 → Fin 36 → Fin 1024 → ℝ) (y : Fin 6400 → Fin 1024 → ℝ) (k : Fin 6400 → ℝ) (i c : Fin 128) : EReal :=
  Ideal.div (Ideal.log ((∑ w : Fin 50, contrib slope guard (im i) (fun w d => y (word c w) d) (fun w => k (word c w)) w : ℝ) : EReal)) ((6 : ℝ) : EReal)

/-- Image `b` of block `n`, and caption `q` of block `j`. -/
def img (n : Fin 16) (b : Fin 8) : Fin 128 := ⟨n.val * 8 + b.val, by omega⟩
/-- Caption `q` of group `j`. -/
def capt (j : Fin 2) (q : Fin 64) : Fin 128 := ⟨j.val * 64 + q.val, by omega⟩

/-- The array of scores as the call tiles it. -/
def tiled (S : Fin 128 → Fin 128 → EReal) : FVec Ideal S2x16x8x64 .f32 := fun i => S (img (i 1) (i 2)) (capt (i 0) (i 3))

/-- The blocks the main call's windows name at each grid point. -/
theorem idx1 : ∀ t : Fin cfg1.N, win1_0.index t = ![t.val % 16, 0, 0] ∧ win1_1.index t = ![0, t.val / 16] ∧ win1_2.index t = ![0, t.val / 16]
    ∧ win1_3.index t = ![0, t.val / 16] ∧ win1_4.index t = ![0, 0] ∧ win1_5.index t = ![0, 0]
    ∧ win1_6.index t = ![t.val / 16, t.val % 16, 0, 0] ∧ t.val / 16 < 2 :=
  (by decide +kernel : ∀ t : Fin grid1.N, _)

/-- A block of scores is placed at the point's image block and caption block. -/
theorem placed (t : Fin cfg1.N) (ht : t.val / 16 < 2) (G : FVec Ideal S2x16x8x64 .f32) (b : Fin 8) (q : Fin 64) :
    G (((View.whole main_v21).slice (win1_6.rect t)).emb (ix4 0 0 b q)) = G (ix4 ⟨t.val / 16, ht⟩ ⟨t.val % 16, by omega⟩ b q) := by
  blk_ext [idx1 t]

section
variable (c : Dev nD) (im : Fin 128 → Fin 36 → Fin 1024 → ℝ) (y : Fin 6400 → Fin 1024 → ℝ) (k : Fin 6400 → ℝ)
    (h0 : ∀ i r d, (V c main_arg0 : FVec Ideal S128x36x1024 .f32) (ix3 i r d) = ((im i r d : ℝ) : EReal))
    (h1 : ∀ d l, (V c main_v1_1 : FVec Ideal S1024x6400 .bf16) (ix2 d l) = ((y l d : ℝ) : EReal))
    (h2 : ∀ l, (V c main_v10 : FVec Ideal S1x6400 .f32) (ix2 0 l) = ((k l : ℝ) : EReal))
    (h3 : ∀ l, (V c main_v1_0 : FVec Ideal S1x6400 .f32) (ix2 0 l) = ((Real.sqrt (∑ d, y l d * y l d) : ℝ) : EReal))
    (h4 : ∀ l q, (V c main_v19 : FVec Ideal S3200x64 .f32) (ix2 l q) = (((if cp l = q then 1 else 0 : ℝ) : ℝ) : EReal))
    (h5 : ∀ q l, (V c main_v20 : FVec Ideal S64x3200 .f32) (ix2 q l) = (((if cp l = q then 1 else 0 : ℝ) : ℝ) : EReal))
include h0 h1 h2 h3 h4 h5

/-- The main call leaves every image's score against every caption, tile by tile. -/
theorem final1 : (dat1 V c).arrAt 6 cfg1.N = tiled (score im y k) := by
  refine (dat1 V c).arrAt_eq_of_covers 6 _ (by decide +kernel) fun t _ z => ?_
  blk_simp
  rw [after1_6]
  obtain ⟨-, -, -, -, -, -, -, ht⟩ := idx1 t
  have e0 : ∀ b r d, (iblk1 V c 0 t : FVec Ideal S8x36x1024 .f32) (ix3 b r d) = ((im ⟨t.val % 16 * 8 + b.val, by omega⟩ r d : ℝ) : EReal) := fun b r d => by
    rw [← h0]; blk_ext [iblk1, idx1 t]
  have e1 : ∀ d l, (iblk1 V c 1 t : FVec Ideal S1024x3200 .bf16) (ix2 d l) = ((y ⟨t.val / 16 * 3200 + l.val, by omega⟩ d : ℝ) : EReal) := fun d l => by
    rw [← h1]; blk_ext [iblk1, idx1 t]
  have e2 : ∀ l, (iblk1 V c 2 t : FVec Ideal S1x3200 .f32) (ix2 0 l) = ((k ⟨t.val / 16 * 3200 + l.val, by omega⟩ : ℝ) : EReal) := fun l => by
    rw [← h2]; blk_ext [iblk1, idx1 t]
  have e3 : ∀ l, (iblk1 V c 3 t : FVec Ideal S1x3200 .f32) (ix2 0 l)
      = ((Real.sqrt (∑ d, y ⟨t.val / 16 * 3200 + l.val, by omega⟩ d * y ⟨t.val / 16 * 3200 + l.val, by omega⟩ d) : ℝ) : EReal) := fun l => by
    rw [← h3]; blk_ext [iblk1, idx1 t]
  have e4 : ∀ l q, (iblk1 V c 4 t : FVec Ideal S3200x64 .f32) (ix2 l q) = (((if cp l = q then 1 else 0 : ℝ) : ℝ) : EReal) := fun l q => by
    rw [← h4]; blk_ext [iblk1, idx1 t]
  have e5 : ∀ q l, (iblk1 V c 5 t : FVec Ideal S64x3200 .f32) (ix2 q l) = (((if cp l = q then 1 else 0 : ℝ) : ℝ) : EReal) := fun q l => by
    rw [← h5]; blk_ext [iblk1, idx1 t]
  have key := scoresOf_at (fun b => im ⟨t.val % 16 * 8 + b.val, by omega⟩) (fun l => y ⟨t.val / 16 * 3200 + l.val, by omega⟩)
    (fun l => k ⟨t.val / 16 * 3200 + l.val, by omega⟩) _ e0 _ e1 _ e2 _ e3 _ e4 _ e5
  idx_vars z
  rw [Subsingleton.elim z0 0, Subsingleton.elim z1 0]
  refine (key z2 z3).trans ?_
  rw [placed t ht (tiled (score im y k)) z2 z3]
  show _ = score im y k (img ⟨t.val % 16, by omega⟩ z2) (capt ⟨t.val / 16, ht⟩ z3)
  have hy : capW (fun l => y ⟨t.val / 16 * 3200 + l.val, by omega⟩) z3 = fun w d => y (word (capt ⟨t.val / 16, ht⟩ z3) w) d := by
    funext w d
    exact congrArg (fun q => y q d) (Fin.ext (by
      show t.val / 16 * 3200 + (z3.val * 50 + w.val) = (t.val / 16 * 64 + z3.val) * 50 + w.val; omega))
  have hk : capM (fun l => k ⟨t.val / 16 * 3200 + l.val, by omega⟩) z3 = fun w => k (word (capt ⟨t.val / 16, ht⟩ z3) w) := by
    funext w
    exact congrArg k (Fin.ext (by
      show t.val / 16 * 3200 + (z3.val * 50 + w.val) = (t.val / 16 * 64 + z3.val) * 50 + w.val; omega))
  rw [hy, hk]
  rfl
end

end Cert.KernelIdeal.Whole

end
-- ==== Proof.Ideal.Host.lean ====
module

public import proofs.«01_k».proof.Proof.Ideal.Launch
public import proofs.«01_k».proof.Proof.Ideal.Arrays
public import Idealize.ShloMosaic.Lib.Pointwise
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # What the host operations between the calls leave, read at an index -/

/-- The words, flattened. -/
theorem words_term (W : Valuation τ sig (Elt Ideal)) (l : Fin 6400) (d : Fin 1024) :
    (StableHlo.after hostOps0 W (Proc.devRef .tc main_v0) : FVec Ideal S6400x1024 .f32) (ix2 l d)
      = (W (Proc.devRef .tc main_arg2) : FVec Ideal S128x50x1024 .f32) (ix3 ⟨l.val / 50, by omega⟩ ⟨l.val % 50, by omega⟩ d) := by
  after_results_simp
  pointwise

/-- A bit as a real. -/
def bit (b : BitVec 1) : ℝ := if b = 1#1 then 1 else 0

/-- A truth value, converted, is its number. -/
theorem uitofp_bit (b : BitVec 1) : (FloatOps.uitofp (F := Ideal) .f32 b : EReal) = ((bit b : ℝ) : EReal) := by
  have hb : b = 0#1 ∨ b = 1#1 := by revert b; decide
  show (((b.toNat : ℝ) : ℝ) : EReal) = _
  rcases hb with rfl | rfl <;> simp [bit]

/-- The flattened mask. -/
theorem mask_term (W : Valuation τ sig (Elt Ideal)) (l : Fin 6400) :
    (StableHlo.after hostOps1 W (Proc.devRef .tc main_v10) : FVec Ideal S1x6400 .f32) (ix2 0 l)
      = ((bit (IntOp.cmpi .slt (BitVec.ofNat 32 (l.val % 50)) ((W (Proc.devRef .tc main_arg3) : IVec S128 32) (ix1 ⟨l.val / 50, by omega⟩))) : ℝ) : EReal) := by
  rw [← uitofp_bit]
  after_results_simp
  pointwise

/-- The row numbers the division starts from. -/
theorem number_start (W : Valuation τ sig (Elt Ideal)) (l : Fin 3200) :
    (StableHlo.after hostOps1 W (Proc.devRef .tc main_v12) : IVec S3200x1 32) (ix2 l 0) = BitVec.ofNat 32 l.val := by
  after_results_simp
  pointwise

/-- Its divisor. -/
theorem fifty (W : Valuation τ sig (Elt Ideal)) :
    (StableHlo.after hostOps1 W (Proc.devRef .tc main_c) : IVec S_ 32) = constantI S_ 32 50#32 := by
  after_results_simp

/-- The division's steps, on each row number, give the quotient by fifty. -/
theorem div_word : ∀ l : Fin 3200, Scalar.select (IntOp.andi (IntOp.cmpi .ne (if (BitVec.ofNat 32 l.val) = 0 then (0 : BitVec 32) else if BitVec.msb (BitVec.ofNat 32 l.val) = true then -1 else 1) (if (50#32 : BitVec 32) = 0 then (0 : BitVec 32) else if BitVec.msb (50#32 : BitVec 32) = true then -1 else 1)) (IntOp.cmpi .ne (IntOp.remsi .host (BitVec.ofNat 32 l.val) 50#32) 0#32)) (IntOp.subi (IntOp.divsi .host (BitVec.ofNat 32 l.val) 50#32) 1#32) (IntOp.divsi .host (BitVec.ofNat 32 l.val) 50#32) = BitVec.ofNat 32 (l.val / 50) := by decide +kernel

/-- The caption number of every flat word position. -/
theorem number_term (W : Valuation τ sig (Elt Ideal)) (l : Fin 3200) (h1 : (W (Proc.devRef .tc main_v12) : IVec S3200x1 32) (ix2 l 0) = BitVec.ofNat 32 l.val)
    (h2 : (W (Proc.devRef .tc main_c) : IVec S_ 32) = constantI S_ 32 50#32) :
    (StableHlo.after hostOps1_1 W (Proc.devRef .tc main_v13) : IVec S3200x1 32) (ix2 l 0) = BitVec.ofNat 32 (l.val / 50) := by
  after_results_simp
  simp only [StableHlo.TRef.ofBuf, StableHlo.TRef.toBuf, cast_cast, cast_eq]
  rw [h2]
  simp only [id]
  pointwise
  rw [h1]
  exact div_word l

/-- The membership matrix -/
theorem member_term (W : Valuation τ sig (Elt Ideal)) (l : Fin 3200) (q : Fin 64) :
    (StableHlo.after hostOps1_2 W (Proc.devRef .tc main_v19) : FVec Ideal S3200x64 .f32) (ix2 l q)
      = ((bit (IntOp.cmpi .eq ((W (Proc.devRef .tc main_v13) : IVec S3200x1 32) (ix2 l 0)) (BitVec.ofNat 32 q.val)) : ℝ) : EReal) := by
  rw [← uitofp_bit]
  after_results_simp
  pointwise

/-- and its transpose. -/
theorem member_turned (W : Valuation τ sig (Elt Ideal)) (l : Fin 3200) (q : Fin 64) :
    (StableHlo.after hostOps1_2 W (Proc.devRef .tc main_v20) : FVec Ideal S64x3200 .f32) (ix2 q l) =
    (StableHlo.after hostOps1_2 W (Proc.devRef .tc main_v19) : FVec Ideal S3200x64 .f32) (ix2 l q) := by
  after_results_simp
  pointwise

/-- The result is the last call's single entry. -/
theorem loss_term (W : Valuation τ sig (Elt Ideal)) (i : S_.Idx) :
    (StableHlo.after hostOps3 W (Proc.devRef .tc main_v23) : FVec Ideal S_ .f32) i
      = (W (Proc.devRef .tc main_v22) : FVec Ideal S1x1 .f32) (ix2 0 0) := by
  after_results_simp
  pointwise

end Cert.KernelIdeal.Whole

end
-- ==== Proof.Ideal.Result.lean ====
module

public import proofs.«01_k».proof.Proof.Ideal.Host
public import Idealize.ShloMosaic.Lib.Pointwise
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Pair

/-! # The kernel's result as the loss of its scores -/

/-- The mask of word `w` of a caption of length `n`. -/
def maskOf (n : BitVec 32) (w : Fin 50) : ℝ := bit (IntOp.cmpi .slt (BitVec.ofNat 32 w.val) n)

/-- It is zero or one. -/
theorem maskOf_cases (n : BitVec 32) (w : Fin 50) : maskOf n w = 0 ∨ maskOf n w = 1 := by
  unfold maskOf bit; split
  · exact Or.inr rfl
  · exact Or.inl rfl

/-- Whether a flat word position lies in a caption, as a number. -/
theorem member_bit (l : Fin 3200) (q : Fin 64) :
    bit (IntOp.cmpi .eq (BitVec.ofNat 32 (l.val / 50)) (BitVec.ofNat 32 q.val)) = if cp l = q then 1 else 0 := by
  by_cases h : cp l = q
  · subst h
    rw [if_pos rfl]
    show bit (IntOp.cmpi .eq (BitVec.ofNat 32 (l.val / 50)) (BitVec.ofNat 32 (l.val / 50))) = 1
    simp [bit, IntOp.cmpi]
  · rw [if_neg h]
    have hne : BitVec.ofNat 32 (l.val / 50) ≠ BitVec.ofNat 32 q.val := fun e => h (Fin.ext (by
      have := congrArg BitVec.toNat e
      simp only [BitVec.toNat_ofNat] at this
      show l.val / 50 = q.val
      have := l.isLt; have := q.isLt
      omega))
    have hb : (BitVec.ofNat 32 (l.val / 50) == BitVec.ofNat 32 q.val) = false := beq_eq_false_iff_ne.mpr hne
    simp [bit, IntOp.cmpi, hb]

/-- The norms of real words. -/
theorem norms_real (X : FVec Ideal S6400x1024 .f32) (x : Fin 6400 → Fin 1024 → ℝ) (h : ∀ l d, X (ix2 l d) = ((x l d : ℝ) : EReal)) (l : Fin 6400) :
    (norms X : FVec Ideal S1x6400 .f32) (ix2 0 l) = ((√(∑ d, x l d * x l d) : ℝ) : EReal) := by
  show Ideal.sqrt (∑ d : Fin 1024, (X (ix2 l d) : EReal) * (X (ix2 l d) : EReal)) = _
  simp only [h, ← EReal.coe_mul, ← coe_sum]
  rw [coe_sqrt (Finset.sum_nonneg fun d _ => mul_self_nonneg _)]

variable (m : (ℓ : Loc nD τ sig) → Buf (Elt Ideal) ℓ) (ρ : Dev nD → PrngReg)

section
variable (c : Dev nD) (im : Fin 128 → Fin 36 → Fin 1024 → ℝ) (tx : Fin 128 → Fin 50 → Fin 1024 → ℝ)
    (h0 : ∀ i r d, (m ((c : Thread nD τ).loc main_arg0) : FVec Ideal S128x36x1024 .f32) (ix3 i r d) = ((im i r d : ℝ) : EReal))
    (h2 : ∀ i w d, (m ((c : Thread nD τ).loc main_arg2) : FVec Ideal S128x50x1024 .f32) (ix3 i w d) = ((tx i w d : ℝ) : EReal))

/-- The lengths of the captions. -/
abbrev lens : IVec S128 32 := m ((c : Thread nD τ).loc main_arg3)

/-- The score of an image against a caption. -/
def pairScore (im : Fin 128 → Fin 36 → Fin 1024 → ℝ) (tx : Fin 128 → Fin 50 → Fin 1024 → ℝ) (s : IVec S128 32) (i q : Fin 128) : EReal :=
  Ideal.div (Ideal.log ((∑ w : Fin 50, contrib slope guard (im i) (tx q) (maskOf (s (ix1 q))) w : ℝ) : EReal)) ((6 : ℝ) : EReal)

/-- The flattened words before the first call. -/
theorem B1_words (l : Fin 6400) (d : Fin 1024) : (B1 m ρ c (Proc.devRef .tc main_v0) : FVec Ideal S6400x1024 .f32) (ix2 l d)
    = (m ((c : Thread nD τ).loc main_arg2) : FVec Ideal S128x50x1024 .f32) (ix3 ⟨l.val / 50, by omega⟩ ⟨l.val % 50, by omega⟩ d) :=
  words_term (B0 m ρ c) l d

/-- Before the main call: the norms, -/
theorem B5_norms : B5 m ρ c (Proc.devRef .tc main_v1_0) = norms (B1 m ρ c (Proc.devRef .tc main_v0)) :=
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  (B2_arr m ρ c 1).trans (final0_1 (atRefs (B1 m ρ)) c)

/-- the transposed words, -/
theorem B5_flipped : B5 m ρ c (Proc.devRef .tc main_v1_1) = flipped (B1 m ρ c (Proc.devRef .tc main_v0)) :=
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  (B2_arr m ρ c 2).trans (final0_2 (atRefs (B1 m ρ)) c)

/-- The lengths after the first call. -/
theorem B2_lens : B2 m ρ c (Proc.devRef .tc main_arg3) = m ((c : Thread nD τ).loc main_arg3) :=
  (B2_of m ρ c main_arg3 (args_in0 main_arg3 (by decide))).trans
    (StableHlo.after_of_writes_sub hostOps0 _ hostOps0_writes (args_hostOps0 main_arg3 (by decide)))

/-- the mask, -/
theorem B5_mask (l : Fin 6400) : (B5 m ρ c (Proc.devRef .tc main_v10) : FVec Ideal S1x6400 .f32) (ix2 0 l)
    = ((maskOf (lens m c (ix1 ⟨l.val / 50, by omega⟩)) ⟨l.val % 50, by omega⟩ : ℝ) : EReal) := by
  have e : B5 m ρ c (Proc.devRef .tc main_v10) = B3 m ρ c (Proc.devRef .tc main_v10) :=
    (StableHlo.after_of_writes_sub hostOps1_2 _ hostOps1_2_writes (by decide)).trans
      (StableHlo.after_of_writes_sub hostOps1_1 _ hostOps1_1_writes (by decide))
  rw [e]
  refine (mask_term (B2 m ρ c) l).trans ?_
  rw [B2_lens]
  rfl

/-- the membership matrix -/
theorem B5_member (l : Fin 3200) (q : Fin 64) : (B5 m ρ c (Proc.devRef .tc main_v19) : FVec Ideal S3200x64 .f32) (ix2 l q)
    = (((if cp l = q then 1 else 0 : ℝ) : ℝ) : EReal) := by
  refine (member_term (B4 m ρ c) l q).trans ?_
  rw [← member_bit l q]
  have e : (B4 m ρ c (Proc.devRef .tc main_v13) : IVec S3200x1 32) (ix2 l 0) = BitVec.ofNat 32 (l.val / 50) :=
    number_term (B3 m ρ c) l (number_start (B2 m ρ c) l) (fifty (B2 m ρ c))
  rw [e]

/-- and its transpose. -/
theorem B5_turned (q : Fin 64) (l : Fin 3200) : (B5 m ρ c (Proc.devRef .tc main_v20) : FVec Ideal S64x3200 .f32) (ix2 q l)
    = (((if cp l = q then 1 else 0 : ℝ) : ℝ) : EReal) :=
  (member_turned (B4 m ρ c) l q).trans (B5_member m ρ c l q)

include h0 h2

/-- After the main call the array of scores holds every image's score against every caption, tile by tile. -/
theorem B6_scores : B6 m ρ c (Proc.devRef .tc main_v21) = tiled (pairScore im tx (lens m c)) := by
  have e := (B6_arr m ρ c 6).trans (final1 (atRefs (B5 m ρ)) c im (fun l d => tx ⟨l.val / 50, by omega⟩ ⟨l.val % 50, by omega⟩ d)
    (fun l => maskOf (lens m c (ix1 ⟨l.val / 50, by omega⟩)) ⟨l.val % 50, by omega⟩)
    (fun i r d => by
      rw [show atRefs (B5 m ρ) c main_arg0 = m ((c : Thread nD τ).loc main_arg0) from B5_args m ρ c main_arg0 (by decide)]
      exact h0 i r d)
    (fun d l => by
      rw [show atRefs (B5 m ρ) c main_v1_1 = _ from B5_flipped m ρ c]
      exact (B1_words m ρ c l d).trans (h2 _ _ d))
    (fun l => B5_mask m ρ c l)
    (fun l => by
      rw [show atRefs (B5 m ρ) c main_v1_0 = _ from B5_norms m ρ c]
      exact norms_real _ _ (fun l d => (B1_words m ρ c l d).trans (h2 _ _ d)) l)
    (B5_member m ρ c) (B5_turned m ρ c))
  refine e.trans (congrArg tiled (funext fun i => funext fun q => ?_))
  have hd : ∀ w : Fin 50, (word q w).val / 50 = q.val := fun w => by show (q.val * 50 + w.val) / 50 = q.val; omega
  have hr : ∀ w : Fin 50, (word q w).val % 50 = w.val := fun w => by show (q.val * 50 + w.val) % 50 = w.val; omega
  unfold score pairScore
  simp only [hd, hr]

/-- The result is the loss of the scores. -/
theorem result_at (i : S_.Idx) : (B8 m ρ c (Proc.devRef .tc main_v23) : FVec Ideal S_ .f32) i
    = lossOf (F := Ideal) (tiled (pairScore im tx (lens m c))) (ix2 0 0) := by
  refine (loss_term (B7 m ρ c) i).trans ?_
  rw [(B7_arr m ρ c 1).trans (final2 (atRefs (B6 m ρ)) c),
    show atRefs (B6 m ρ) c main_v21 = _ from B6_scores m ρ c im tx h0 h2]
end

end Cert.KernelIdeal.Whole

end
-- ==== Proof.Ideal.Loss.lean ====
module

public import proofs.«01_k».proof.Proof.Ideal.Arrays
public import Idealize.ShloMosaic.Lib.Pointwise
public import Idealize.ShloMosaic.Lib.Tactic

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Pair

/-! # The loss the kernel's last call computes -/

/-- Whether two positions are the same, as the programs test it. -/
theorem same_bit (i q : Fin 128) : (IntOp.cmpi .eq (BitVec.ofNat 32 i.val) (BitVec.ofNat 32 q.val) = 1#1) ↔ i = q := by
  constructor
  · intro h
    by_contra hn
    have hne : BitVec.ofNat 32 i.val ≠ BitVec.ofNat 32 q.val := fun e => hn (Fin.ext (by
      have := congrArg BitVec.toNat e
      simp only [BitVec.toNat_ofNat] at this
      have := i.isLt; have := q.isLt
      omega))
    have hb : (BitVec.ofNat 32 i.val == BitVec.ofNat 32 q.val) = false := beq_eq_false_iff_ne.mpr hne
    simp [IntOp.cmpi, hb] at h
  · rintro rfl; simp [IntOp.cmpi]

/-- A selection by that test. -/
theorem select_same (i q : Fin 128) (a b : EReal) :
    Scalar.select (IntOp.cmpi .eq (BitVec.ofNat 32 i.val) (BitVec.ofNat 32 q.val)) a b = if i = q then a else b := by
  show (if IntOp.cmpi .eq (BitVec.ofNat 32 i.val) (BitVec.ofNat 32 q.val) = 1#1 then a else b) = _
  by_cases h : i = q
  · rw [if_pos h, if_pos ((same_bit i q).2 h)]
  · rw [if_neg h, if_neg fun e => h ((same_bit i q).1 e)]

/-- What one off-diagonal entry costs beyond the margin. -/
def hinge (s d : EReal) : EReal := max (Ideal.ofBits .f32 0x3E4CCCCD#32 + s - d) 0
/-- The hardest negatives' costs, over the captions of every image and over the images of every caption. -/
def lossOfScores (S : Fin 128 → Fin 128 → EReal) : EReal :=
  (∑ i : Fin 128, Finset.univ.fold max (⊥ : EReal) fun q : Fin 128 => if i = q then 0 else hinge (S i q) (S i i))
    + ∑ q : Fin 128, Finset.univ.fold max (⊥ : EReal) fun i : Fin 128 => if i = q then 0 else hinge (S i q) (S q q)

/-- The tiled scores, put side by side. -/
theorem joined_at (S : Fin 128 → Fin 128 → EReal) (i q : Fin 128) : (k2_pay2 (F := Ideal) (tiled S) (ix2 i q) : EReal) = S i q := by
  pointwise [k2_pay2]
  split
  · exact congrArg₂ S (Fin.ext (by show i.val / 8 * 8 + i.val % 8 = i.val; omega)) (Fin.ext (by show 0 * 64 + q.val = q.val; omega))
  · exact congrArg₂ S (Fin.ext (by show i.val / 8 * 8 + i.val % 8 = i.val; omega)) (Fin.ext (by show 1 * 64 + (q.val - 64) = q.val; omega))

/-- The loss over the rows -/
theorem rows_at (x : FVec Ideal S2x16x8x64 .f32) (S : Fin 128 → Fin 128 → EReal) (h : ∀ i q, (k2_pay2 (F := Ideal) x (ix2 i q) : EReal) = S i q) :
    (k2_pay4 (F := Ideal) x (ix2 0 0) : EReal)
      = ∑ i : Fin 128, Finset.univ.fold max (⊥ : EReal) fun q : Fin 128 => if i = q then 0 else hinge (S i q) (S i i) := by
  pointwise [k2_pay4, k2_pay3]
  simp only [h, select_same, bits_bot, Finset.sum_ite_eq, Finset.mem_univ, if_true]
  rfl

/-- and over the columns. -/
theorem columns_at (x : FVec Ideal S2x16x8x64 .f32) (S : Fin 128 → Fin 128 → EReal) (h : ∀ i q, (k2_pay2 (F := Ideal) x (ix2 i q) : EReal) = S i q) :
    (k2_pay5 (F := Ideal) x (ix1 0) : EReal)
      = ∑ q : Fin 128, Finset.univ.fold max (⊥ : EReal) fun i : Fin 128 => if i = q then 0 else hinge (S i q) (S q q) := by
  pointwise [k2_pay5, k2_pay3]
  simp only [h, select_same, bits_bot, Finset.sum_ite_eq', Finset.mem_univ, if_true]
  rfl

/-- The last call's result, of the tiled scores. -/
theorem loss_at (S : Fin 128 → Fin 128 → EReal) : (lossOf (F := Ideal) (tiled S) (ix2 0 0) : EReal) = lossOfScores S := by
  have e : (lossOf (F := Ideal) (tiled S) (ix2 0 0) : EReal) = (k2_pay4 (F := Ideal) (tiled S) (ix2 0 0) : EReal) + (k2_pay5 (F := Ideal) (tiled S) (ix1 0) : EReal) := by
    pointwise [lossOf, k2_pay1]
  rw [e, rows_at _ S (joined_at S), columns_at _ S (joined_at S)]
  rfl

end Cert.KernelIdeal.Whole

end
-- ==== Proof.Ideal.Reference.lean ====
module

public import proofs.«01_k».proof.Proof.Gen.ReferenceIdeal.Read
public import proofs.«01_k».proof.Proof.Ideal.Consts
public import proofs.«01_k».proof.Proof.Ideal.Result
public import Idealize.ShloMosaic.Lib.Pointwise
public import Idealize.ShloMosaic.Lib.Tactic

@[expose] public section

set_option maxRecDepth 16384

noncomputable section

namespace Cert.ReferenceIdeal.Whole

open Cert.ReferenceIdeal Cert.ReferenceIdeal.Gen Cert.ReferenceIdeal.Read
open Idealize.ShloMosaic Idealize.ShloMosaic.TcCoe Idealize.ShloMosaic.StableHlo Idealize.ShloMosaic.Tactic Idealize.SL.Sem
open Cert.Pair

open Cert.KernelIdeal.Whole (bit uitofp_bit maskOf maskOf_cases pairScore)

/-! # The reference's scores -/

/-- The greatest of finitely many reals, at least one, is a real. -/
theorem fold_max_real {n : Nat} (f : Fin (n + 1) → ℝ) : ∃ s : ℝ, Finset.univ.fold max (⊥ : EReal) (fun k => (f k : EReal)) = (s : EReal) := by
  have h : ∀ t : Finset (Fin (n + 1)), t.Nonempty → ∃ s : ℝ, t.fold max (⊥ : EReal) (fun k => (f k : EReal)) = (s : EReal) := by
    intro t ht
    induction ht using Finset.Nonempty.cons_induction with
    | singleton a => exact ⟨f a, by simp⟩
    | cons a t ha ht ih =>
      obtain ⟨s, hs⟩ := ih
      exact ⟨max (f a) s, by rw [Finset.fold_cons, hs, coe_max]⟩
  exact h _ Finset.univ_nonempty

variable (x0 : FVec Ideal S128x36x1024 .f32) (x2 : FVec Ideal S128x50x1024 .f32) (x3 : IVec S128 32)

section
variable (im : Fin 128 → Fin 36 → Fin 1024 → ℝ) (tx : Fin 128 → Fin 50 → Fin 1024 → ℝ)
    (h0 : ∀ i r d, x0 (ix3 i r d) = ((im i r d : ℝ) : EReal)) (h2 : ∀ i w d, x2 (ix3 i w d) = ((tx i w d : ℝ) : EReal))

/-- The mask. -/
theorem v6_at (q : Fin 128) (w : Fin 50) : (val_main_v6 (F := Ideal) x3 (ix2 q w) : EReal) = ((maskOf (x3 (ix1 q)) w : ℝ) : EReal) := by
  pointwise [val_main_v6, val_main_v5, val_main_v4, val_main_v3, val_main_v2, val_main_v1, val_main_v0]
  exact uitofp_bit _

include h2 in
/-- The masked words. -/
theorem v9_at (q : Fin 128) (w : Fin 50) (d : Fin 1024) : (val_main_v9 (F := Ideal) x2 x3 (ix3 q w d) : EReal)
    = ((cap (tx q) (maskOf (x3 (ix1 q))) w d : ℝ) : EReal) := by
  pointwise [val_main_v9, val_main_v8, val_main_v7]
  rw [v6_at, h2, ← EReal.coe_mul]; rfl

include h0 h2 in
/-- The rectified products. -/
theorem v12_at (i q : Fin 128) (r : Fin 36) (w : Fin 50) : (val_main_v12 (F := Ideal) x0 x2 x3 (ix4 i q r w) : EReal)
    = ((rlk slope (im i) (tx q) (maskOf (x3 (ix1 q))) w r : ℝ) : EReal) := by
  pointwise [val_main_v12, val_main_call0_v4, val_main_call0_v3, val_main_call0_v2, val_main_cst, val_main_call0_v1, val_main_call0_v0, val_main_call0_cst, val_main_v11, val_main_v10]
  simp only [v9_at x2 x3 tx h2, h0]
  rw [show (id (constant (F := Ideal) S_ .f32 0x3DCCCCCD#32) ix0 : EReal) = ((slope : ℝ) : EReal) from bits_slope]
  simp only [← EReal.coe_mul, ← coe_sum]
  simp only [EReal.coe_mul, coe_act]
  rfl

include h0 h2 in
/-- The norms of the regions' rows. -/
theorem v16_at (i q : Fin 128) (r : Fin 36) : (val_main_v16 (F := Ideal) x0 x2 x3 (ix4 i q r 0) : EReal)
    = ((√(∑ v, rlk slope (im i) (tx q) (maskOf (x3 (ix1 q))) v r * rlk slope (im i) (tx q) (maskOf (x3 (ix1 q))) v r) : ℝ) : EReal) := by
  pointwise [val_main_v16, val_main_v15, val_main_v14, val_main_v13, val_main_cst_0]
  simp only [v12_at x0 x2 x3 im tx h0 h2, ← EReal.coe_mul, ← coe_sum]
  rw [coe_sqrt (Finset.sum_nonneg fun d _ => mul_self_nonneg _)]

include h0 h2 in
/-- The logits. -/
theorem v23_at (i q : Fin 128) (w : Fin 50) (r : Fin 36) : (val_main_v23 (F := Ideal) x0 x2 x3 (ix4 i q w r) : EReal)
    = ((logit slope guard (im i) (tx q) (maskOf (x3 (ix1 q))) w r : ℝ) : EReal) := by
  pointwise [val_main_v23, val_main_v22, val_main_cst_2, val_main_v21, val_main_v20, val_main_v19, val_main_v18, val_main_v17, val_main_cst_1]
  simp only [v12_at x0 x2 x3 im tx h0 h2, v16_at x0 x2 x3 im tx h0 h2, bits_nine, bits_guard]
  rw [← EReal.coe_add, coe_div (add_pos_of_nonneg_of_pos (Real.sqrt_nonneg _) guard_pos).ne', ← EReal.coe_mul]
  rfl

/-- The reduction by maximum over the last axis, of any array. -/
theorem max_last (y : FVec Ideal S128x128x50x36 .f32) (i q : Fin 128) (w : Fin 50) :
    (Host.reduce (FloatOps.maximumf (F := Ideal) (φ := .f32)) y (constant (F := Ideal) S_ .f32 0xFF800000#32) reducesTo_S128x128x50x36_S128x128x50_d3 h_S_ (ix3 i q w) : Ideal .f32)
      = Finset.univ.fold max (⊥ : EReal) (fun r : Fin 36 => (y (ix4 i q w r) : EReal)) := by
  have hr : S128x128x50x36.Reduces [3] S128x128x50 := by decide
  rw [Host.reduce_eq_fold_single (FloatOps.maximumf (F := Ideal) (φ := .f32)) y _ reducesTo_S128x128x50x36_S128x128x50_d3 hr h_S_ (ix3 i q w)]
  have e : ∀ r : Fin 36, hr.lift (ix3 i q w) r = ix4 i q w r := fun r => funext fun a => Fin.ext (by
    match a with | ⟨0, _⟩ => rfl | ⟨1, _⟩ => rfl | ⟨2, _⟩ => rfl | ⟨3, _⟩ => rfl)
  have e' : (y ∘ hr.lift (ix3 i q w)) = fun r : Fin 36 => y (ix4 i q w r) := funext fun r => congrArg y (e r)
  rw [e']
  rw [show constant (F := Ideal) S_ .f32 0xFF800000#32 (Shape.Idx.first h_S_) = (⊥ : EReal) from bits_bot]
  rfl

/-- The maximum of `-∞` and a real. -/
theorem max_bot (z : EReal) (s : ℝ) (h : z = (s : EReal)) :
    (FloatOps.maximumf (F := Ideal) (φ := .f32) (FloatOps.ofBits .f32 0xFF800000#32) z : EReal) = (s : EReal) := by
  rw [h]
  show max (Ideal.ofBits .f32 0xFF800000#32) (s : EReal) = _
  rw [bits_bot]
  exact bot_sup_eq _

include h0 h2 in
/-- The greatest logit of a word. -/
theorem v24_at (i q : Fin 128) (w : Fin 50) : (val_main_v24 (F := Ideal) x0 x2 x3 (ix3 i q w) : EReal)
    = Finset.univ.fold max (⊥ : EReal) (fun r : Fin 36 => ((logit slope guard (im i) (tx q) (maskOf (x3 (ix1 q))) w r : ℝ) : EReal)) := by
  have e := max_last (val_main_v23 (F := Ideal) x0 x2 x3) i q w
  simp only [v23_at x0 x2 x3 im tx h0 h2] at e
  exact e

include h0 h2 in
/-- The shift of a word's logits is a real. -/
theorem v26_at (i q : Fin 128) (w : Fin 50) : ∃ s : ℝ, (val_main_v26 (F := Ideal) x0 x2 x3 (ix3 i q w) : EReal) = (s : EReal) := by
  obtain ⟨s, hs⟩ := fold_max_real (n := 35) fun k => logit slope guard (im i) (tx q) (maskOf (x3 (ix1 q))) w k
  exact ⟨s, (val_main_v26_apply (F := Ideal) x0 x2 x3 (ix3 i q w)).trans (by
    rw [val_main_v25_apply]
    exact max_bot _ s ((v24_at x0 x2 x3 im tx h0 h2 i q w).trans hs))⟩

variable (s : Fin 128 → Fin 128 → Fin 50 → ℝ) (hs : ∀ i q w, (val_main_v26 (F := Ideal) x0 x2 x3 (ix3 i q w) : EReal) = (s i q w : EReal))

include h0 h2 hs in
/-- The exponentials of the shifted logits. -/
theorem v30_at (i q : Fin 128) (w : Fin 50) (r : Fin 36) : (val_main_v30 (F := Ideal) x0 x2 x3 (ix4 i q w r) : EReal)
    = ((Real.exp (logit slope guard (im i) (tx q) (maskOf (x3 (ix1 q))) w r - s i q w) : ℝ) : EReal) := by
  pointwise [val_main_v30, val_main_v29, val_main_v28, val_main_v27]
  simp only [v23_at x0 x2 x3 im tx h0 h2, hs]
  rw [← EReal.coe_sub, Ideal.exp_coe]

include h0 h2 hs in
/-- The attention. -/
theorem v34_at (i q : Fin 128) (w : Fin 50) (r : Fin 36) : (val_main_v34 (F := Ideal) x0 x2 x3 (ix4 i q w r) : EReal)
    = ((attn slope guard (im i) (tx q) (maskOf (x3 (ix1 q))) (s i q) w r : ℝ) : EReal) := by
  pointwise [val_main_v34, val_main_v33, val_main_v32, val_main_v31, val_main_cst_5]
  simp only [v30_at x0 x2 x3 im tx h0 h2 s hs, ← coe_sum]
  rw [coe_div (Finset.sum_pos (fun _ _ => Real.exp_pos _) Finset.univ_nonempty).ne']
  rfl

include h0 h2 hs in
/-- The attended images. -/
theorem v35_at (i q : Fin 128) (w : Fin 50) (d : Fin 1024) : (val_main_v35 (F := Ideal) x0 x2 x3 (ix4 i q w d) : EReal)
    = ((wei slope guard (im i) (tx q) (maskOf (x3 (ix1 q))) (s i q) w d : ℝ) : EReal) := by
  pointwise [val_main_v35]
  simp only [v34_at x0 x2 x3 im tx h0 h2 s hs, h0, ← EReal.coe_mul, ← coe_sum]
  rfl

include h0 h2 hs in
/-- The similarities. -/
theorem v50_at (i q : Fin 128) (w : Fin 50) : (val_main_v50 (F := Ideal) x0 x2 x3 (ix3 i q w) : EReal)
    = ((rsim slope guard (im i) (tx q) (maskOf (x3 (ix1 q))) (s i q) w : ℝ) : EReal) := by
  pointwise [val_main_v50, val_main_v49, val_main_v48, val_main_cst_9, val_main_v47, val_main_v46, val_main_v45, val_main_v44, val_main_cst_8, val_main_v43,
    val_main_v42, val_main_v41, val_main_cst_7, val_main_v40, val_main_v39, val_main_cst_6, val_main_v38, val_main_v37, val_main_v36]
  simp only [v35_at x0 x2 x3 im tx h0 h2 s hs, v9_at x2 x3 tx h2, bits_guard, ← EReal.coe_mul, ← coe_sum]
  rw [coe_sqrt (Finset.sum_nonneg fun d _ => mul_self_nonneg _), coe_sqrt (Finset.sum_nonneg fun d _ => mul_self_nonneg _), ← EReal.coe_mul,
    coe_max, coe_div (lt_of_lt_of_le guard_pos (le_max_right _ _)).ne']
  rfl

include h0 h2 hs in
/-- The scores. -/
theorem v60_of (i q : Fin 128) : (val_main_v60 (F := Ideal) x0 x2 x3 (ix2 i q) : EReal) = pairScore im tx x3 i q := by
  pointwise [val_main_v60, val_main_v59, val_main_cst_12, val_main_v58, val_main_v57, val_main_cst_11, val_main_v56, val_main_v55, val_main_v54, val_main_v53,
    val_main_v52, val_main_v51, val_main_cst_10]
  simp only [v50_at x0 x2 x3 im tx h0 h2 s hs, v6_at, bits_six, ← EReal.coe_mul, Ideal.exp_coe, ← coe_sum]
  unfold pairScore
  simp only [← contrib_eq (a := slope) (ε := guard) (x := im i) (y := tx q) (k := maskOf (x3 (ix1 q))) (maskOf_cases _) (s i q)]
  rfl
end

/-- The reference's scores are the kernel's. -/
theorem v60_at (im : Fin 128 → Fin 36 → Fin 1024 → ℝ) (tx : Fin 128 → Fin 50 → Fin 1024 → ℝ)
    (h0 : ∀ i r d, x0 (ix3 i r d) = ((im i r d : ℝ) : EReal)) (h2 : ∀ i w d, x2 (ix3 i w d) = ((tx i w d : ℝ) : EReal)) (i q : Fin 128) :
    (val_main_v60 (F := Ideal) x0 x2 x3 (ix2 i q) : EReal) = pairScore im tx x3 i q := by
  choose s hs using v26_at x0 x2 x3 im tx h0 h2
  exact v60_of x0 x2 x3 im tx h0 h2 s hs i q

end Cert.ReferenceIdeal.Whole

end
-- ==== Proof.Ideal.ReferenceLoss.lean ====
module

public import proofs.«01_k».proof.Proof.Gen.ReferenceIdeal.Read
public import proofs.«01_k».proof.Proof.Ideal.Consts
public import proofs.«01_k».proof.Proof.Ideal.Loss
public import Idealize.ShloMosaic.Lib.Pointwise
public import Idealize.ShloMosaic.Lib.Tactic

@[expose] public section

set_option maxRecDepth 16384

noncomputable section

namespace Cert.ReferenceIdeal.Whole

open Cert.ReferenceIdeal Cert.ReferenceIdeal.Gen Cert.ReferenceIdeal.Read
open Idealize.ShloMosaic Idealize.ShloMosaic.TcCoe Idealize.ShloMosaic.StableHlo Idealize.ShloMosaic.Tactic Idealize.SL.Sem
open Cert.Pair

open Cert.KernelIdeal.Whole (select_same hinge lossOfScores)

/-! # The loss the reference computes of its scores -/

/-- Zero's bit pattern. -/
theorem bits_zero : Ideal.ofBits .f32 0x00000000#32 = 0 := by simp [Ideal.ofBits, Ideal.ieee]

variable (x0 : FVec Ideal S128x36x1024 .f32) (x2 : FVec Ideal S128x50x1024 .f32) (x3 : IVec S128 32)

/-- The reduction by maximum over the rows' entries, of any square array, -/
theorem max_row (y : FVec Ideal S128x128 .f32) (i : Fin 128) :
    (Host.reduce (FloatOps.maximumf (F := Ideal) (φ := .f32)) y (constant (F := Ideal) S_ .f32 0xFF800000#32) reducesTo_S128x128_S128_d1 h_S_ (ix1 i) : Ideal .f32)
      = Finset.univ.fold max (⊥ : EReal) (fun q : Fin 128 => (y (ix2 i q) : EReal)) := by
  have hr : S128x128.Reduces [1] S128 := by decide
  rw [Host.reduce_eq_fold_single (FloatOps.maximumf (F := Ideal) (φ := .f32)) y _ reducesTo_S128x128_S128_d1 hr h_S_ (ix1 i)]
  have e : ∀ q : Fin 128, hr.lift (ix1 i) q = ix2 i q := fun q => funext fun a => Fin.ext (by
    match a with | ⟨0, _⟩ => rfl | ⟨1, _⟩ => rfl)
  rw [show (y ∘ hr.lift (ix1 i)) = fun q : Fin 128 => y (ix2 i q) from funext fun q => congrArg y (e q),
    show constant (F := Ideal) S_ .f32 0xFF800000#32 (Shape.Idx.first h_S_) = (⊥ : EReal) from bits_bot]
  rfl

/-- and over the columns'. -/
theorem max_column (y : FVec Ideal S128x128 .f32) (q : Fin 128) :
    (Host.reduce (FloatOps.maximumf (F := Ideal) (φ := .f32)) y (constant (F := Ideal) S_ .f32 0xFF800000#32) reducesTo_S128x128_S128_d0 h_S_ (ix1 q) : Ideal .f32)
      = Finset.univ.fold max (⊥ : EReal) (fun i : Fin 128 => (y (ix2 i q) : EReal)) := by
  have hr : S128x128.Reduces [0] S128 := by decide
  rw [Host.reduce_eq_fold_single (FloatOps.maximumf (F := Ideal) (φ := .f32)) y _ reducesTo_S128x128_S128_d0 hr h_S_ (ix1 q)]
  have e : ∀ i : Fin 128, hr.lift (ix1 q) i = ix2 i q := fun i => funext fun a => Fin.ext (by
    match a with | ⟨0, _⟩ => rfl | ⟨1, _⟩ => rfl)
  rw [show (y ∘ hr.lift (ix1 q)) = fun i : Fin 128 => y (ix2 i q) from funext fun i => congrArg y (e i),
    show constant (F := Ideal) S_ .f32 0xFF800000#32 (Shape.Idx.first h_S_) = (⊥ : EReal) from bits_bot]
  rfl

section
variable (S : Fin 128 → Fin 128 → EReal) (h : ∀ i q, (val_main_v60 (F := Ideal) x0 x2 x3 (ix2 i q) : EReal) = S i q)

include h in
/-- The diagonal of the scores. -/
theorem v67_at (i : Fin 128) : (val_main_v67 (F := Ideal) x0 x2 x3 (ix2 i 0) : EReal) = S i i := by
  pointwise [val_main_v67, val_main_v66, val_main_cst_14, val_main_v65, val_main_v64, val_main_cst_13, val_main_v63, val_main_v62, val_main_v61]
  simp only [h, select_same, Finset.sum_ite_eq', Finset.mem_univ, if_true]

include h in
/-- The costs against the images' own captions, zero on the diagonal, -/
theorem v86_at (i q : Fin 128) : (val_main_v86 (F := Ideal) x0 x2 x3 (ix2 i q) : EReal) = if i = q then 0 else hinge (S i q) (S i i) := by
  pointwise [val_main_v86, val_main_call1_v1, val_main_call1_v0, val_main_cst_19, val_main_v85, val_main_v84, val_main_v83, val_main_v82, val_main_v81, val_main_c,
    val_main_v73, val_main_v72, val_main_cst_16, val_main_v71, val_main_v70, val_main_v69, val_main_v68, val_main_cst_15]
  simp only [h, v67_at x0 x2 x3 S h]
  rw [show IntOp.addi (BitVec.ofNat 32 i.val) 0#32 = BitVec.ofNat 32 i.val from BitVec.add_zero _,
    show (id (constant (F := Ideal) S_ .f32 0x00000000#32) ix0 : EReal) = 0 from bits_zero, select_same]
  rfl

include h in
/-- and against the captions' own images. -/
theorem v87_at (i q : Fin 128) : (val_main_v87 (F := Ideal) x0 x2 x3 (ix2 i q) : EReal) = if i = q then 0 else hinge (S i q) (S q q) := by
  pointwise [val_main_v87, val_main_call2_v1, val_main_call2_v0, val_main_cst_20, val_main_v85, val_main_v84, val_main_v83, val_main_v82, val_main_v81, val_main_c,
    val_main_v80, val_main_v79, val_main_cst_18, val_main_v78, val_main_v77, val_main_v76, val_main_v75, val_main_v74, val_main_cst_17]
  simp only [h, v67_at x0 x2 x3 S h]
  rw [show IntOp.addi (BitVec.ofNat 32 i.val) 0#32 = BitVec.ofNat 32 i.val from BitVec.add_zero _,
    show (id (constant (F := Ideal) S_ .f32 0x00000000#32) ix0 : EReal) = 0 from bits_zero, select_same]
  rfl

include h in
/-- The hardest negative of every image -/
theorem v88_at (i : Fin 128) : (val_main_v88 (F := Ideal) x0 x2 x3 (ix1 i) : EReal)
    = Finset.univ.fold max (⊥ : EReal) fun q : Fin 128 => if i = q then 0 else hinge (S i q) (S i i) := by
  have e := max_row (val_main_v86 (F := Ideal) x0 x2 x3) i
  simp only [v86_at x0 x2 x3 S h] at e
  exact e

include h in
/-- and of every caption. -/
theorem v90_at (q : Fin 128) : (val_main_v90 (F := Ideal) x0 x2 x3 (ix1 q) : EReal)
    = Finset.univ.fold max (⊥ : EReal) fun i : Fin 128 => if i = q then 0 else hinge (S i q) (S q q) := by
  have e := max_column (val_main_v87 (F := Ideal) x0 x2 x3) q
  simp only [v87_at x0 x2 x3 S h] at e
  exact e

include h in
/-- The reference's result is the loss of its scores. -/
theorem v92_at (i : S_.Idx) : (val_main_v92 (F := Ideal) x0 x2 x3 i : EReal) = lossOfScores S := by
  have e1 : ∀ j : S_.Idx, (val_main_v89 (F := Ideal) x0 x2 x3 j : EReal) = ∑ i : Fin 128, (val_main_v88 (F := Ideal) x0 x2 x3 (ix1 i) : EReal) := fun j => by
    pointwise [val_main_v89, val_main_cst_22]
  have e2 : ∀ j : S_.Idx, (val_main_v91 (F := Ideal) x0 x2 x3 j : EReal) = ∑ i : Fin 128, (val_main_v90 (F := Ideal) x0 x2 x3 (ix1 i) : EReal) := fun j => by
    pointwise [val_main_v91, val_main_cst_24]
  refine (val_main_v92_apply (F := Ideal) x0 x2 x3 i).trans ?_
  rw [e1, e2]
  simp only [v88_at x0 x2 x3 S h, v90_at x0 x2 x3 S h]
  rfl
end

end Cert.ReferenceIdeal.Whole

end
-- ==== Proof.Ideal.Algebraic.lean ====
module

public import proofs.«01_k».proof.Defs
public import proofs.«01_k».proof.Proof.Ideal.Launch
public import proofs.«01_k».proof.Proof.Ideal.Result
public import proofs.«01_k».proof.Proof.Ideal.Loss
public import proofs.«01_k».proof.Proof.Ideal.Reference
public import proofs.«01_k».proof.Proof.Ideal.ReferenceLoss
public import proofs.«01_k».proof.Proof.Gen.ReferenceIdeal.Run
public import proofs.«01_k».proof.Proof.Gen.ReferenceIdeal.Read
public import proofs.«01_k».proof.Proof.Gen.KernelIdeal
public import proofs.«01_k».proof.Proof.Gen.ReferenceIdeal
public import proofs.«01_k».proof.Proof.Gen.Pre_finite_inputs
public import Idealize.ShloMosaic.Lib.Pointwise
public import Idealize.ShloMosaic.Lib.Tactic

@[expose] public section

noncomputable section

namespace Cert.Proof.Algebraic

open Idealize.ShloMosaic Idealize.ShloMosaic.TcCoe Idealize.SL.Sem

/-! # The kernel's result is the reference's -/

/-- What the precondition's comparison says of one entry: it is a real number. -/
theorem real_of_test (x : EReal) (h : (FloatOps.cmpf (F := Ideal) (φ := .f32) .olt (FloatOps.hostAbsf (F := Ideal) (φ := .f32) x)
    (FloatOps.ofBits .f32 0x7F800000#32) : BitVec 1) = 1#1) : ∃ r : ℝ, x = (r : EReal) := by
  have ht : Ideal.ofBits .f32 0x7F800000#32 = ⊤ := by simp [Ideal.ofBits, Ideal.ieee]
  replace h : Ideal.cmp .olt (max x (-x)) (Ideal.ofBits .f32 0x7F800000#32) = 1#1 := h
  rw [ht] at h
  induction x with
  | bot => simp [Ideal.cmp] at h
  | top => simp [Ideal.cmp] at h
  | coe r => exact ⟨r, rfl⟩

/-- The precondition makes every entry of the images and of the captions a real number. -/
theorem reals (a0 : FVec Ideal Cert.Pre_finite_inputs.S128x36x1024 .f32) (a1 : IVec Cert.Pre_finite_inputs.S128 32)
    (a2 : FVec Ideal Cert.Pre_finite_inputs.S128x50x1024 .f32) (a3 : IVec Cert.Pre_finite_inputs.S128 32)
    (h : (Cert.Pre_finite_inputs.fn (F := Ideal) a0 a1 a2 a3).1 = (fun _ => 1#1) ∧ (Cert.Pre_finite_inputs.fn (F := Ideal) a0 a1 a2 a3).2 = (fun _ => 1#1)) :
    (∀ i r d, ∃ x : ℝ, (a0 (ix3 i r d) : EReal) = (x : EReal)) ∧ (∀ i w d, ∃ x : ℝ, (a2 (ix3 i w d) : EReal) = (x : EReal)) :=
  ⟨fun i r d => real_of_test _ (congrFun h.1 (ix3 i r d)), fun i w d => real_of_test _ (congrFun h.2 (ix3 i w d))⟩

/-- From arguments that agree, their floats real, both programs run and end with the same loss and unchanged arguments. -/
theorem algebraic : Cert.algebraic_KernelIdeal_ReferenceIdeal_pre_finite_inputs := fun m g m' g' hp ha => by
  refine ⟨fun c => Cert.KernelIdeal.Whole.B8 m g c (Proc.devRef .tc Cert.KernelIdeal.main_v23), Cert.KernelIdeal.Whole.run_values m g, ?_⟩
  refine (θ_run Cert.ReferenceIdeal.defs _ _).mono (fun r h c => ⟨(h c).1.trans ?_, (h c).2⟩) (Cert.ReferenceIdeal.Value.run (F := Ideal) m' g')
  obtain ⟨r0, r2⟩ := reals _ _ _ _ (hp c)
  choose im h0 using r0
  choose tx h2 using r2
  refine (Cert.ReferenceIdeal.Read.val_main_v92_eq (F := Ideal) (StableHlo.launchContents m' c)).trans ?_
  funext i
  refine Eq.trans ?_ (Cert.KernelIdeal.Whole.result_at m g c im tx h0 h2 i).symm
  rw [Cert.KernelIdeal.Whole.loss_at]
  obtain ⟨a0, a1, a2, a3⟩ := ha c
  have e0 : StableHlo.launchContents m' c (Proc.devRef .tc Cert.ReferenceIdeal.main_arg0) = m ((c.tc : Thread _ _).loc Cert.KernelIdeal.main_arg0) := a0
  have e2 : StableHlo.launchContents m' c (Proc.devRef .tc Cert.ReferenceIdeal.main_arg2) = m ((c.tc : Thread _ _).loc Cert.KernelIdeal.main_arg2) := a2
  have e3 : StableHlo.launchContents m' c (Proc.devRef .tc Cert.ReferenceIdeal.main_arg3) = m ((c.tc : Thread _ _).loc Cert.KernelIdeal.main_arg3) := a3
  rw [e0, e2, e3]
  exact Cert.ReferenceIdeal.Whole.v92_at _ _ _ _ (Cert.ReferenceIdeal.Whole.v60_at _ _ _ im tx h0 h2) i

end Cert.Proof.Algebraic

end
-- ==== Proof.lean ====
module

public import proofs.«01_k».proof.Defs
public import proofs.«01_k».proof.Proof.Bits.Launch
public import proofs.«01_k».proof.Proof.Ideal.Launch
public import proofs.«01_k».proof.Proof.Gen.ReferenceIdeal.Run
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.Pre_finite_inputs
public import proofs.«01_k».proof.Proof.Ideal.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- The printed kernel runs to its end, its arguments unchanged and every counter at zero. -/
theorem frame_p : Cert.quiescent_Kernel := fun m ρ _ => Cert.Kernel.Whole.frame m ρ
/-- The idealized kernel likewise, -/
theorem frame_pi : Cert.quiescent_KernelIdeal := fun m ρ _ => Cert.KernelIdeal.Whole.frame m ρ
/-- and the idealized reference, which declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- The certificate's table gives the padding constant the value `-∞`. -/
theorem preserves : Cert.preserves_Kernel_KernelIdeal :=
  IdealRules.named_const.statement Cert.KernelIdeal.κ "mask" .f32 0xF149F2CA#32 ⊥ rfl

/-- With the precondition the two frames hold a fortiori. -/
theorem frame_pi_finite : Cert.quiescent_KernelIdeal_pre_finite_inputs := fun m ρ _ => Cert.KernelIdeal.Whole.frame m ρ
theorem frame_ri_finite : Cert.quiescent_ReferenceIdeal_pre_finite_inputs := fun m ρ _ => frame_ri m ρ trivial

theorem claim : Cert.Claim :=
  ⟨Cert.Kernel.Gen.facts, Cert.KernelIdeal.Gen.facts, Cert.ReferenceIdeal.Gen.facts, Cert.Pre_finite_inputs.Gen.facts,
    frame_p, frame_pi, frame_pi_finite, frame_ri, frame_ri_finite, preserves, Algebraic.algebraic⟩

end Cert.Proof

end
